-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_in_range : Cert.Pre_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_edges_in_range.lean ====
abbrev S4x1024x512 : Shape := ⟨3, ![4, 1024, 512]⟩
abbrev S2x16384 : Shape := ⟨2, ![2, 16384]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S2x16384 : S_.BroadcastsInDim S2x16384 (![] : Fin 0 → Fin S2x16384.rank)

variable [Facts]

def fn {F : FTy → Type} [FloatOps F] (main_arg0 : FVec F S4x1024x512 .f32) (main_arg1 : IVec S2x16384 32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S1x256 .f32) (main_arg13 : FVec F S1 .f32) : IVec S2x16384 1 :=
  let main_c : IVec S_ 32 := constantI S_ 32 0#32
  let main_v0 : IVec S2x16384 32 := broadcastInDim S2x16384 ![] bcast_S_S2x16384 main_c
  let main_v1 : IVec S2x16384 1 := cmpi .sge main_arg1 main_v0
  let main_c_0 : IVec S_ 32 := constantI S_ 32 1024#32
  let main_v2 : IVec S2x16384 32 := broadcastInDim S2x16384 ![] bcast_S_S2x16384 main_c_0
  let main_v3 : IVec S2x16384 1 := cmpi .slt main_arg1 main_v2
  let main_v4 : IVec S2x16384 1 := andi main_v1 main_v3
  main_v4
-- ==== Pre_in_range.lean ====
abbrev S4x1024x512 : Shape := ⟨3, ![4, 1024, 512]⟩
abbrev S2x16384 : Shape := ⟨2, ![2, 16384]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S1x1 : Shape := ⟨2, ![1, 1]⟩

class Facts : Prop where
  bcast_S_S2x16384 : S_.BroadcastsInDim S2x16384 (![] : Fin 0 → Fin S2x16384.rank)
  bcast_S_S1 : S_.BroadcastsInDim S1 (![] : Fin 0 → Fin S1.rank)
  bcast_S1_S1x1_1 : S1.BroadcastsInDim S1x1 (![1] : Fin 1 → Fin S1x1.rank)
  bcast_S1x1_S2x16384_0_1 : S1x1.BroadcastsInDim S2x16384 (![0, 1] : Fin 2 → Fin S2x16384.rank)
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_v34 : IVec S2x16384 1) (main_v35 : FVec F S512 .f32) (main_cst_9 : FVec F S_ .f32) : IVec S2x16384 1 :=
  let main_v36 : FVec F S512 .f32 := broadcastInDim S512 ![] bcast_S_S512 main_cst_9
  let main_v37 : IVec S512 1 := cmpf .olt main_v35 main_v36
  let main_c_10 : IVec S_ 1 := constantI S_ 1 1#1
  let main_v38 : IVec S_ 1 := (fun x v => Host.reduce IntOp.andi x v reducesTo_S512_S_d0 h_S_) main_v37 main_c_10
  let main_v39 : IVec S2x16384 1 := broadcastInDim S2x16384 ![] bcast_S_S2x16384 main_v38
  let main_v40 : IVec S2x16384 1 := andi main_v34 main_v39
  main_v40

def fn_part1 {F : FTy → Type} [FloatOps F] (main_arg3 : FVec F S512 .f32) (main_arg4 : FVec F S512x512 .f32) (main_arg5 : FVec F S512 .f32) (main_v16 : IVec S2x16384 1) (main_v17 : FVec F S512x512 .f32) (main_cst_3 : FVec F S_ .f32) : IVec S2x16384 1 :=
  let main_v18 : FVec F S512x512 .f32 := broadcastInDim S512x512 ![] bcast_S_S512x512 main_cst_3
  let main_v19 : IVec S512x512 1 := cmpf .olt main_v17 main_v18
  let main_c_4 : IVec S_ 1 := constantI S_ 1 1#1
  let main_v20 : IVec S_ 1 := (fun x v => Host.reduce IntOp.andi x v reducesTo_S512x512_S_d0_1 h_S_) main_v19 main_c_4
  let main_v21 : IVec S2x16384 1 := broadcastInDim S2x16384 ![] bcast_S_S2x16384 main_v20
  let main_v22 : IVec S2x16384 1 := andi main_v16 main_v21
  let main_v23 : FVec F S512 .f32 := Host.absf main_arg3
  let main_cst_5 : FVec F S_ .f32 := constant S_ .f32 0x7F800000#32
  let main_v24 : FVec F S512 .f32 := broadcastInDim S512 ![] bcast_S_S512 main_cst_5
  let main_v25 : IVec S512 1 := cmpf .olt main_v23 main_v24
  let main_c_6 : IVec S_ 1 := constantI S_ 1 1#1
  let main_v26 : IVec S_ 1 := (fun x v => Host.reduce IntOp.andi x v reducesTo_S512_S_d0 h_S_) main_v25 main_c_6
  let main_v27 : IVec S2x16384 1 := broadcastInDim S2x16384 ![] bcast_S_S2x16384 main_v26
  let main_v28 : IVec S2x16384 1 := andi main_v22 main_v27
  let main_v29 : FVec F S512x512 .f32 := Host.absf main_arg4
  let main_cst_7 : FVec F S_ .f32 := constant S_ .f32 0x7F800000#32
  let main_v30 : FVec F S512x512 .f32 := broadcastInDim S512x512 ![] bcast_S_S512x512 main_cst_7
  let main_v31 : IVec S512x512 1 := cmpf .olt main_v29 main_v30
  let main_c_8 : IVec S_ 1 := constantI S_ 1 1#1
  let main_v32 : IVec S_ 1 := (fun x v => Host.reduce IntOp.andi x v reducesTo_S512x512_S_d0_1 h_S_) main_v31 main_c_8
  let main_v33 : IVec S2x16384 1 := broadcastInDim S2x16384 ![] bcast_S_S2x16384 main_v32
  let main_v34 : IVec S2x16384 1 := andi main_v28 main_v33
  let main_v35 : FVec F S512 .f32 := Host.absf main_arg5
  let main_cst_9 : FVec F S_ .f32 := constant S_ .f32 0x7F800000#32
  fn_part2 (F := F) main_v34 main_v35 main_cst_9

def fn {F : FTy → Type} [FloatOps F] (main_arg0 : FVec F S4x1024x512 .f32) (main_arg1 : IVec S2x16384 32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S1x256 .f32) (main_arg13 : FVec F S1 .f32) : IVec S2x16384 1 :=
  let main_c : IVec S_ 32 := constantI S_ 32 0#32
  let main_v0 : IVec S2x16384 32 := broadcastInDim S2x16384 ![] bcast_S_S2x16384 main_c
  let main_v1 : IVec S2x16384 1 := cmpi .sge main_arg1 main_v0
  let main_c_0 : IVec S_ 32 := constantI S_ 32 1024#32
  let main_v2 : IVec S2x16384 32 := broadcastInDim S2x16384 ![] bcast_S_S2x16384 main_c_0
  let main_v3 : IVec S2x16384 1 := cmpi .slt main_arg1 main_v2
  let main_v4 : IVec S2x16384 1 := andi main_v1 main_v3
  let main_v5 : FVec F S1 .f32 := Host.absf main_arg13
  let main_cst : FVec F S_ .f32 := constant S_ .f32 0x7F800000#32
  let main_v6 : FVec F S1 .f32 := broadcastInDim S1 ![] bcast_S_S1 main_cst
  let main_v7 : IVec S1 1 := cmpf .olt main_v5 main_v6
  let main_v8 : IVec S1x1 1 := broadcastInDim S1x1 ![1] bcast_S1_S1x1_1 main_v7
  let main_v9 : IVec S2x16384 1 := broadcastInDim S2x16384 ![0, 1] bcast_S1x1_S2x16384_0_1 main_v8
  let main_v10 : IVec S2x16384 1 := andi main_v4 main_v9
  let main_v11 : FVec F S4x1024x512 .f32 := Host.absf main_arg0
  let main_cst_1 : FVec F S_ .f32 := constant S_ .f32 0x7F800000#32
  let main_v12 : FVec F S4x1024x512 .f32 := broadcastInDim S4x1024x512 ![] bcast_S_S4x1024x512 main_cst_1
  let main_v13 : IVec S4x1024x512 1 := cmpf .olt main_v11 main_v12
  let main_c_2 : IVec S_ 1 := constantI S_ 1 1#1
  let main_v14 : IVec S_ 1 := (fun x v => Host.reduce IntOp.andi x v reducesTo_S4x1024x512_S_d0_1_2 h_S_) main_v13 main_c_2
  let main_v15 : IVec S2x16384 1 := broadcastInDim S2x16384 ![] bcast_S_S2x16384 main_v14
  let main_v16 : IVec S2x16384 1 := andi main_v10 main_v15
  let main_v17 : FVec F S512x512 .f32 := Host.absf main_arg2
  let main_cst_3 : FVec F S_ .f32 := constant S_ .f32 0x7F800000#32
  fn_part1 (F := F) main_arg3 main_arg4 main_arg5 main_v16 main_v17 main_cst_3
-- ==== Kernel.lean ====
abbrev S4x1024x512 : Shape := ⟨3, ![4, 1024, 512]⟩
abbrev S2x16384 : Shape := ⟨2, ![2, 16384]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x16384 : Shape := ⟨2, ![1, 16384]⟩
abbrev S16384 : Shape := ⟨1, ![16384]⟩
abbrev S1024x1024 : Shape := ⟨2, ![1024, 1024]⟩
abbrev S32x1024 : Shape := ⟨2, ![32, 1024]⟩
abbrev S16 : Shape := ⟨1, ![16]⟩
abbrev S1x16 : Shape := ⟨2, ![1, 16]⟩
abbrev S_ : Shape := ⟨0, ![]⟩
abbrev S512x256 : Shape := ⟨2, ![512, 256]⟩
abbrev S4x1x1024 : Shape := ⟨3, ![4, 1, 1024]⟩
abbrev S1x1024x512 : Shape := ⟨3, ![1, 1024, 512]⟩
abbrev S1x1x1024 : Shape := ⟨3, ![1, 1, 1024]⟩
abbrev S1024x512 : Shape := ⟨2, ![1024, 512]⟩
abbrev S1024x256 : Shape := ⟨2, ![1024, 256]⟩
abbrev S1x1024 : Shape := ⟨2, ![1, 1024]⟩
abbrev S4x1024x1 : Shape := ⟨3, ![4, 1024, 1]⟩
abbrev S1x1024x1 : Shape := ⟨3, ![1, 1024, 1]⟩
abbrev S1024x1 : Shape := ⟨2, ![1024, 1]⟩
abbrev S1024 : Shape := ⟨1, ![1024]⟩
abbrev S1x512 : Shape := ⟨2, ![1, 512]⟩
abbrev S4x8x1024x1024 : Shape := ⟨4, ![4, 8, 1024, 1024]⟩
abbrev S128x1024 : Shape := ⟨2, ![128, 1024]⟩
abbrev S1x128x512 : Shape := ⟨3, ![1, 128, 512]⟩
abbrev S1x8x128x1024 : Shape := ⟨4, ![1, 8, 128, 1024]⟩
abbrev S128x512 : Shape := ⟨2, ![128, 512]⟩
abbrev S128x64 : Shape := ⟨2, ![128, 64]⟩
abbrev S1024x64 : Shape := ⟨2, ![1024, 64]⟩
abbrev S128 : Shape := ⟨1, ![128]⟩
abbrev S128x1 : Shape := ⟨2, ![128, 1]⟩
abbrev S1x128x1024 : Shape := ⟨3, ![1, 128, 1024]⟩
abbrev S8x128x1024 : Shape := ⟨3, ![8, 128, 1024]⟩

abbrev nBuf : Table → Nat
  | .hbm => 34
  | .local .tc .vmem => 34
  | .local .scVector .vmem => 3
  | _ => 0

abbrev bufTy : (tb : Table) → Fin (nBuf tb) → BufTy
  | .hbm, ⟨0, _⟩ => ⟨S4x1024x512, .f32⟩
  | .hbm, ⟨1, _⟩ => ⟨S2x16384, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S1x16384, .i32⟩
  | .hbm, ⟨15, _⟩ => ⟨S16384, .i32⟩
  | .hbm, ⟨16, _⟩ => ⟨S1x16384, .i32⟩
  | .hbm, ⟨17, _⟩ => ⟨S16384, .i32⟩
  | .hbm, ⟨18, _⟩ => ⟨S1024x1024, .f32⟩
  | .hbm, ⟨19, _⟩ => ⟨S512x256, .f32⟩
  | .hbm, ⟨20, _⟩ => ⟨S1x256, .f32⟩
  | .hbm, ⟨21, _⟩ => ⟨S4x1x1024, .f32⟩
  | .hbm, ⟨22, _⟩ => ⟨S4x1024x1, .f32⟩
  | .hbm, ⟨23, _⟩ => ⟨S4x1x1024, .f32⟩
  | .hbm, ⟨24, _⟩ => ⟨S512x512, .f32⟩
  | .hbm, ⟨25, _⟩ => ⟨S1x512, .f32⟩
  | .hbm, ⟨26, _⟩ => ⟨S512x512, .f32⟩
  | .hbm, ⟨27, _⟩ => ⟨S1x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S1x512, .f32⟩
  | .hbm, ⟨32, _⟩ => ⟨S4x1024x512, .f32⟩
  | .hbm, ⟨33, _⟩ => ⟨S4x8x1024x1024, .f32⟩
  | .local .tc .vmem, ⟨0, _⟩ => ⟨S1024x1024, .f32⟩
  | .local .tc .vmem, ⟨1, _⟩ => ⟨S1x1024x512, .f32⟩
  | .local .tc .vmem, ⟨2, _⟩ => ⟨S1x1024x512, .f32⟩
  | .local .tc .vmem, ⟨3, _⟩ => ⟨S512x256, .f32⟩
  | .local .tc .vmem, ⟨4, _⟩ => ⟨S1x256, .f32⟩
  | .local .tc .vmem, ⟨5, _⟩ => ⟨S1x256, .f32⟩
  | .local .tc .vmem, ⟨6, _⟩ => ⟨S1x1x1024, .f32⟩
  | .local .tc .vmem, ⟨7, _⟩ => ⟨S1x1x1024, .f32⟩
  | .local .tc .vmem, ⟨8, _⟩ => ⟨S1x1x1024, .f32⟩
  | .local .tc .vmem, ⟨9, _⟩ => ⟨S1x1x1024, .f32⟩
  | .local .tc .vmem, ⟨10, _⟩ => ⟨S1x1024x1, .f32⟩
  | .local .tc .vmem, ⟨11, _⟩ => ⟨S1x1024x1, .f32⟩
  | .local .tc .vmem, ⟨12, _⟩ => ⟨S1x1x1024, .f32⟩
  | .local .tc .vmem, ⟨13, _⟩ => ⟨S1x1x1024, .f32⟩
  | .local .tc .vmem, ⟨14, _⟩ => ⟨S1x1024x512, .f32⟩
  | .local .tc .vmem, ⟨15, _⟩ => ⟨S1x1024x512, .f32⟩
  | .local .tc .vmem, ⟨16, _⟩ => ⟨S128x1024, .f32⟩
  | .local .tc .vmem, ⟨17, _⟩ => ⟨S128x1024, .f32⟩
  | .local .tc .vmem, ⟨18, _⟩ => ⟨S1x1x1024, .f32⟩
  | .local .tc .vmem, ⟨19, _⟩ => ⟨S1x1x1024, .f32⟩
  | .local .tc .vmem, ⟨20, _⟩ => ⟨S512x512, .f32⟩
  | .local .tc .vmem, ⟨21, _⟩ => ⟨S1x512, .f32⟩
  | .local .tc .vmem, ⟨22, _⟩ => ⟨S512x512, .f32⟩
  | .local .tc .vmem, ⟨23, _⟩ => ⟨S1x512, .f32⟩
  | .local .tc .vmem, ⟨24, _⟩ => ⟨S512x512, .f32⟩
  | .local .tc .vmem, ⟨25, _⟩ => ⟨S1x512, .f32⟩
  | .local .tc .vmem, ⟨26, _⟩ => ⟨S512x512, .f32⟩
  | .local .tc .vmem, ⟨27, _⟩ => ⟨S1x512, .f32⟩
  | .local .tc .vmem, ⟨28, _⟩ => ⟨S1x128x512, .f32⟩
  | .local .tc .vmem, ⟨29, _⟩ => ⟨S1x128x512, .f32⟩
  | .local .tc .vmem, ⟨30, _⟩ => ⟨S1x8x128x1024, .f32⟩
  | .local .tc .vmem, ⟨31, _⟩ => ⟨S1x8x128x1024, .f32⟩
  | .local .tc .vmem, ⟨32, _⟩ => ⟨S1024x512, .f32⟩
  | .local .tc .vmem, ⟨33, _⟩ => ⟨S1024x512, .f32⟩
  | .local .scVector .vmem, ⟨0, _⟩ => ⟨S32x1024, .f32⟩
  | .local .scVector .vmem, ⟨1, _⟩ => ⟨S16384, .i32⟩
  | .local .scVector .vmem, ⟨2, _⟩ => ⟨S16384, .i32⟩
  | _, _ => ⟨S4x1024x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v1_scv : Ref sig .scVector := ⟨.hbm, 15, rfl⟩
abbrev main_v3_scv : Ref sig .scVector := ⟨.hbm, 17, rfl⟩
abbrev main_v4_scv : Ref sig .scVector := ⟨.hbm, 18, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg8_0 : Ref sig .tc := ⟨.vmem, 25, rfl⟩
abbrev cc3_stg9_0 : Ref sig .tc := ⟨.vmem, 26, rfl⟩
abbrev cc3_stg10_0 : Ref sig .tc := ⟨.vmem, 27, rfl⟩
abbrev cc3_stg11_0 : Ref sig .tc := ⟨.vmem, 28, rfl⟩
abbrev cc3_stg11_1 : Ref sig .tc := ⟨.vmem, 29, rfl⟩
abbrev cc3_stg12_0 : Ref sig .tc := ⟨.vmem, 30, rfl⟩
abbrev cc3_stg12_1 : Ref sig .tc := ⟨.vmem, 31, rfl⟩
abbrev cc3_scratch0 : Ref sig .tc := ⟨.vmem, 32, rfl⟩
abbrev cc3_scratch1 : Ref sig .tc := ⟨.vmem, 33, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem9_0 : DmaSem sig := 29
abbrev cc3_sem10_0 : DmaSem sig := 30
abbrev cc3_sem11_0 : DmaSem sig := 31
abbrev cc3_sem11_1 : DmaSem sig := 32
abbrev cc3_sem12_0 : DmaSem sig := 33
abbrev cc3_sem12_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c32_i32_0 : BitVec 32 := 32#32
  let v4 : BitVec 32 := Scalar.addi c0_i32 c32_i32_0
  let c1_i32 : BitVec 32 := 1#32
  ⟨c0_i32, v4, c1_i32⟩
@[reducible] def k0_t2_loop : Scf.Loop 32 :=
  let c0_i32_8 : BitVec 32 := 0#32
  let c64_i32 : BitVec 32 := 64#32
  let v9 : BitVec 32 := Scalar.addi c0_i32_8 c64_i32
  let c1_i32_9 : BitVec 32 := 1#32
  ⟨c0_i32_8, v9, c1_i32_9⟩
def k0_off1 (k0_t1 : Fin k0_t1_loop.trips) (k0_t2 : Fin k0_t2_loop.trips) : Fin 2 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let v12 : Index := Scalar.indexCast v8
  let c0_i32_11 : BitVec 32 := 0#32
  let c0_i32_8 : BitVec 32 := 0#32
  let c1_i32_9 : BitVec 32 := 1#32
  let arg9 : BitVec 32 := Scf.iv c0_i32_8 c1_i32_9 k0_t2
  let c16_i32 : BitVec 32 := 16#32
  let v10 : BitVec 32 := Scalar.muli arg9 c16_i32
  let v11 : BitVec 32 := Scalar.addi c0_i32_11 v10
  let v13 : Index := Scalar.indexCast v11
  ![v12.toNat, v13.toNat]
@[reducible] def k0_t3_loop : Scf.Loop 32 :=
  let c0_i32_3 : BitVec 32 := 0#32
  let c1024_i32 : BitVec 32 := 1024#32
  let v6 : BitVec 32 := Scalar.addi c0_i32_3 c1024_i32
  let c1_i32_4 : BitVec 32 := 1#32
  ⟨c0_i32_3, v6, c1_i32_4⟩
def k0_off2 (k0_t3 : Fin k0_t3_loop.trips) : Fin 1 → Nat :=
  let c0_i32_6 : BitVec 32 := 0#32
  let c0_i32_3 : BitVec 32 := 0#32
  let c1_i32_4 : BitVec 32 := 1#32
  let arg8 : BitVec 32 := Scf.iv c0_i32_3 c1_i32_4 k0_t3
  let c16_i32 : BitVec 32 := 16#32
  let v7 : BitVec 32 := Scalar.muli arg8 c16_i32
  let v8 : BitVec 32 := Scalar.addi c0_i32_6 v7
  let v9 : Index := Scalar.indexCast v8
  ![v9.toNat]

def k0_chk1 (v22 : IVec S16 32) (v24 : IVec S16 32) : Prop :=
  (∀ a x, ((![v22, v24] : Fin 2 → IVec S16 32) a x).toNat < S32x1024.size a)
theorem k0_idx1_inb : ∀ (v22 : IVec S16 32) (v24 : IVec S16 32) (k0_hw1 : k0_chk1 v22 v24), ∀ a x, ((![v22, v24] : Fin 2 → IVec S16 32) a x).toNat < S32x1024.size a := fun v22 v24 k0_hw1 => k0_hw1
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6_r2 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 8], ![false, false]⟩

def k3_off1 (i : grid3.Coords) : Fin 3 → Nat :=
  let c0_3 : Index := 0#32
  let arg1 : BitVec 32 := BitVec.ofNat 32 (i 1).val
  let c128_i32 : BitVec 32 := 128#32
  let v5 : BitVec 32 := Scalar.muli arg1 c128_i32
  let v6 : Index := Scalar.indexCast v5
  let c0_4 : Index := 0#32
  ![0, v6.toNat, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_12 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S1x128x512 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S1x8x128x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x512 : Shape := ⟨3, ![4, 1024, 512]⟩
abbrev S2x16384 : Shape := ⟨2, ![2, 16384]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x16384 : Shape := ⟨2, ![1, 16384]⟩
abbrev S16384 : Shape := ⟨1, ![16384]⟩
abbrev S_ : Shape := ⟨0, ![]⟩
abbrev S1024x512 : Shape := ⟨2, ![1024, 512]⟩
abbrev S16384x1 : Shape := ⟨2, ![16384, 1]⟩
abbrev S4x16384x512 : Shape := ⟨3, ![4, 16384, 512]⟩
abbrev S512x256 : Shape := ⟨2, ![512, 256]⟩
abbrev S4x1024x256 : Shape := ⟨3, ![4, 1024, 256]⟩
abbrev S1x1x256 : Shape := ⟨3, ![1, 1, 256]⟩
abbrev S256x1 : Shape := ⟨2, ![256, 1]⟩
abbrev S4x1024x1 : Shape := ⟨3, ![4, 1024, 1]⟩
abbrev S1x1 : Shape := ⟨2, ![1, 1]⟩
abbrev S1x1x1 : Shape := ⟨3, ![1, 1, 1]⟩
abbrev S4x1024 : Shape := ⟨2, ![4, 1024]⟩
abbrev S1x1x512 : Shape := ⟨3, ![1, 1, 512]⟩
abbrev S4x1024x8x64 : Shape := ⟨4, ![4, 1024, 8, 64]⟩
abbrev S4x8x1024x1024 : Shape := ⟨4, ![4, 8, 1024, 1024]⟩
abbrev S4x8x1024 : Shape := ⟨3, ![4, 8, 1024]⟩
abbrev S4x8x1024x1 : Shape := ⟨4, ![4, 8, 1024, 1]⟩
abbrev S4x1024x1024 : Shape := ⟨3, ![4, 1024, 1024]⟩
abbrev S16384x2 : Shape := ⟨2, ![16384, 2]⟩
abbrev S4x16384 : Shape := ⟨2, ![4, 16384]⟩
abbrev S4x512 : Shape := ⟨2, ![4, 512]⟩
abbrev S4 : Shape := ⟨1, ![4]⟩
abbrev S4x1 : Shape := ⟨2, ![4, 1]⟩
abbrev S4x512x1 : Shape := ⟨3, ![4, 512, 1]⟩
abbrev S4x512x2 : Shape := ⟨3, ![4, 512, 2]⟩
abbrev S4x1x1024 : Shape := ⟨3, ![4, 1, 1024]⟩
abbrev S4x1x1024x1024 : Shape := ⟨4, ![4, 1, 1024, 1024]⟩
abbrev S4x8x64x1024 : Shape := ⟨4, ![4, 8, 64, 1024]⟩

abbrev nBuf : Space → Nat
  | .hbm => 162
  | .vmem => 0
  | .smem => 0
  | _ => 0

abbrev hbmTy0_0 (i : Nat) : BufTy := match i % 128 with
  | 0 => ⟨S4x1024x512, .f32⟩
  | 1 => ⟨S2x16384, .i32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S256x512, .f32⟩
  | 11 => ⟨S256, .f32⟩
  | 12 => ⟨S1x256, .f32⟩
  | 13 => ⟨S1, .f32⟩
  | 14 => ⟨S1x16384, .i32⟩
  | 15 => ⟨S16384, .i32⟩
  | 16 => ⟨S1x16384, .i32⟩
  | 17 => ⟨S16384, .i32⟩
  | 18 => ⟨S_, .f32⟩
  | 19 => ⟨S1024x512, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S4x16384x512, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S4x1024x512, .f32⟩
  | 38 => ⟨S4x1024x512, .f32⟩
  | 39 => ⟨S512x256, .f32⟩
  | 40 => ⟨S4x1024x256, .f32⟩
  | 41 => ⟨S1x256, .f32⟩
  | 42 => ⟨S1x1x256, .f32⟩
  | 43 => ⟨S4x1024x256, .f32⟩
  | 44 => ⟨S4x1024x256, .f32⟩
  | 45 => ⟨S_, .f32⟩
  | 46 => ⟨S4x1024x256, .f32⟩
  | 47 => ⟨S4x1024x256, .f32⟩
  | 48 => ⟨S256x1, .f32⟩
  | 49 => ⟨S4x1024x1, .f32⟩
  | 50 => ⟨S1x1, .f32⟩
  | 51 => ⟨S1x1x1, .f32⟩
  | 52 => ⟨S4x1024x1, .f32⟩
  | 53 => ⟨S4x1024x1, .f32⟩
  | 54 => ⟨S4x1024, .f32⟩
  | 55 => ⟨S512x512, .f32⟩
  | 56 => ⟨S4x1024x512, .f32⟩
  | 57 => ⟨S1x1x512, .f32⟩
  | 58 => ⟨S4x1024x512, .f32⟩
  | 59 => ⟨S4x1024x512, .f32⟩
  | 60 => ⟨S4x1024x8x64, .f32⟩
  | 61 => ⟨S512x512, .f32⟩
  | 62 => ⟨S4x1024x512, .f32⟩
  | 63 => ⟨S1x1x512, .f32⟩
  | 64 => ⟨S4x1024x512, .f32⟩
  | 65 => ⟨S4x1024x512, .f32⟩
  | 66 => ⟨S4x1024x8x64, .f32⟩
  | 67 => ⟨S512x512, .f32⟩
  | 68 => ⟨S4x1024x512, .f32⟩
  | 69 => ⟨S1x1x512, .f32⟩
  | 70 => ⟨S4x1024x512, .f32⟩
  | 71 => ⟨S4x1024x512, .f32⟩
  | 72 => ⟨S4x1024x8x64, .f32⟩
  | 73 => ⟨S4x8x1024x1024, .f32⟩
  | 74 => ⟨S_, .f32⟩
  | 75 => ⟨S4x8x1024x1024, .f32⟩
  | 76 => ⟨S4x8x1024x1024, .f32⟩
  | 77 => ⟨S_, .f32⟩
  | 78 => ⟨S4x8x1024, .f32⟩
  | 79 => ⟨S_, .f32⟩
  | 80 => ⟨S4x8x1024, .f32⟩
  | 81 => ⟨S4x8x1024, .f32⟩
  | 82 => ⟨S4x8x1024x1, .f32⟩
  | 83 => ⟨S4x8x1024x1024, .f32⟩
  | 84 => ⟨S4x8x1024x1024, .f32⟩
  | 85 => ⟨S4x8x1024x1024, .f32⟩
  | 86 => ⟨S_, .f32⟩
  | 87 => ⟨S4x8x1024, .f32⟩
  | 88 => ⟨S4x8x1024x1, .f32⟩
  | 89 => ⟨S4x8x1024x1024, .f32⟩
  | 90 => ⟨S4x8x1024x1024, .f32⟩
  | 91 => ⟨S_, .f32⟩
  | 92 => ⟨S4x1024x1024, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x1, .i32⟩
  | 109 => ⟨S16384x2, .i32⟩
  | 110 => ⟨S_, .f32⟩
  | 111 => ⟨S4x16384, .f32⟩
  | 112 => ⟨S4x1024x1024, .f32⟩
  | 113 => ⟨S4x512, .f32⟩
  | 114 => ⟨S4x512, .i32⟩
  | 115 => ⟨S_, .f32⟩
  | 116 => ⟨S4x1024, .f32⟩
  | 117 => ⟨S4, .i32⟩
  | 118 => ⟨S4x1, .i32⟩
  | 119 => ⟨S_, .i32⟩
  | 120 => ⟨S4x1, .i32⟩
  | 121 => ⟨S4x1, .i1⟩
  | 122 => ⟨S_, .i32⟩
  | 123 => ⟨S4x1, .i32⟩
  | 124 => ⟨S4x1, .i32⟩
  | 125 => ⟨S4x1, .i32⟩
  | 126 => ⟨S_, .i32⟩
  | 127 => ⟨S4x512, .i32⟩
  | _ => ⟨S4x1024x512, .f32⟩

abbrev hbmTy0_1 (i : Nat) : BufTy := match i % 128 with
  | 0 => ⟨S4x512, .i1⟩
  | 1 => ⟨S_, .i32⟩
  | 2 => ⟨S4x512, .i32⟩
  | 3 => ⟨S4x512, .i32⟩
  | 4 => ⟨S4x512, .i32⟩
  | 5 => ⟨S4x512, .i32⟩
  | 6 => ⟨S4x512x1, .i32⟩
  | 7 => ⟨S4x512x1, .i32⟩
  | 8 => ⟨S4x512x2, .i32⟩
  | 9 => ⟨S_, .f32⟩
  | 10 => ⟨S4x512, .f32⟩
  | 11 => ⟨S4x1024, .f32⟩
  | 12 => ⟨S4x1x1024, .f32⟩
  | 13 => ⟨S4x1024x1024, .f32⟩
  | 14 => ⟨S4x1024x1024, .f32⟩
  | 15 => ⟨S4x1x1024x1024, .f32⟩
  | 16 => ⟨S4x8x1024x1024, .f32⟩
  | 17 => ⟨S4x8x1024x1024, .f32⟩
  | 18 => ⟨S_, .f32⟩
  | 19 => ⟨S4x8x1024, .f32⟩
  | 20 => ⟨S4x8x1024x1, .f32⟩
  | 21 => ⟨S_, .f32⟩
  | 22 => ⟨S4x8x1024x1, .f32⟩
  | 23 => ⟨S4x8x1024x1, .f32⟩
  | 24 => ⟨S4x8x1024x1024, .f32⟩
  | 25 => ⟨S4x8x1024x1024, .f32⟩
  | 26 => ⟨S4x8x64x1024, .f32⟩
  | 27 => ⟨S4x1024x8x64, .f32⟩
  | 28 => ⟨S4x1024x512, .f32⟩
  | 29 => ⟨S512x512, .f32⟩
  | 30 => ⟨S4x1024x512, .f32⟩
  | 31 => ⟨S1x1x512, .f32⟩
  | 32 => ⟨S4x1024x512, .f32⟩
  | 33 => ⟨S4x1024x512, .f32⟩
  | _ => ⟨S4x1024x512, .f32⟩

abbrev hbmTy (i : Nat) : BufTy := match i / 128 with
  | 0 => hbmTy0_0 i
  | 1 => hbmTy0_1 i
  | _ => ⟨S4x1024x512, .f32⟩

abbrev bufTy : (tb : Table) → Fin (tcTables nBuf tb) → BufTy
  | .hbm, ⟨i, _⟩ => hbmTy i
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_c_8 : Ref sig .tc := ⟨.hbm, 93, rfl⟩
abbrev main_v67 : Ref sig .tc := ⟨.hbm, 94, rfl⟩
abbrev main_v68 : Ref sig .tc := ⟨.hbm, 95, rfl⟩
abbrev main_c_9 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_values : Ref sig .tc := ⟨.hbm, 113, rfl⟩
abbrev main_indices : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_14 : Ref sig .tc := ⟨.hbm, 119, rfl⟩
abbrev main_v85 : Ref sig .tc := ⟨.hbm, 120, rfl⟩
abbrev main_v86 : Ref sig .tc := ⟨.hbm, 121, rfl⟩
abbrev main_c_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_c_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_19 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩

abbrev nD : Nat := 1
abbrev τ : Topo := Topo.v7x

variable {F : FTy → Type} [FloatOps F]
-- ==== Proof.Count.lean ====
/-
  Edge counts as a fold: how many edges name a place of the count matrix, summed in the order the edges come, and the
  indexed add of sixteen edges at a time as sixteen steps of that fold. Nothing here speaks of the program.
-/
module

public import Idealize.ShloMosaic.PureOps
public import Idealize.ShloMosaic.Lib.StableHlo.Run

@[expose] public section

noncomputable section

namespace Cert.Proof.Count

open Idealize.ShloMosaic

variable {F : FTy → Type} [FloatOps F]

/-- The float zero a count starts at. -/
def zero : F .f32 := Scalar.ofBits .f32 0x00000000#32

/-- The float one each edge adds. -/
def one : F .f32 := Scalar.ofBits .f32 0x3F800000#32

/-- The count at place `(r, c)` after the first `n` edges: one added, in order, for each edge `e < n` with
    `rows e = r` and `cols e = c`. -/
def upTo (rows cols : ℕ → ℕ) (r c : ℕ) : ℕ → F .f32
  | 0 => zero
  | n + 1 => if rows n = r ∧ cols n = c then FloatOps.idxAddf (upTo rows cols r c n) one else upTo rows cols r c n

/-- A fold over `0, …, n - 1` carries a statement indexed by how many steps were taken. -/
theorem foldl_finRange {α : Type} {n : ℕ} (f : α → Fin n → α) (P : ℕ → α → Prop) (a : α) (h0 : P 0 a)
    (hs : ∀ (k : Fin n) (a : α), P k.val a → P (k.val + 1) (f a k)) : P n ((List.finRange n).foldl f a) := by
  have key : ∀ (l : List (Fin n)) (i : ℕ) (a : α), l.map Fin.val = List.range' i l.length → P i a → P (i + l.length) (l.foldl f a) := by
    intro l
    induction l with
    | nil => intro i a _ h; exact h
    | cons x l ih =>
      intro i a hl h
      rw [List.length_cons, List.range'_succ, List.map_cons] at hl
      have hx : x.val = i := (List.cons.inj hl).1
      have := ih (i + 1) (f a x) (List.cons.inj hl).2 (hx ▸ hs x a (hx ▸ h))
      rw [List.foldl_cons, List.length_cons, show i + (l.length + 1) = i + 1 + l.length by omega]
      exact this
  have h := key (List.finRange n) 0 a (by
    rw [List.length_finRange]
    apply List.ext_getElem
    · simp
    · intro i h1 h2; simp) h0
  rwa [List.length_finRange, Nat.zero_add] at h

/-- Sixteen lanes of an indexed add: over a block of 32 rows from `lo` on that holds the counts after `n` edges, with
    lane `k` of the store on exactly when edge `n + k` has its row in the block, and then naming that edge's place in
    it, the block afterwards holds the counts after `n + 16` edges. -/
theorem storeIdx_upTo (rows cols : ℕ → ℕ) (lo n : ℕ) (g : Vec F ⟨2, ![32, 1024]⟩ .f32)
    (hg : ∀ j, g j = upTo rows cols (lo + (j 0).val) (j 1).val n)
    (idxs : Fin 2 → IVec ⟨1, ![16]⟩ 32) (v : Vec F ⟨1, ![16]⟩ .f32) (mask : IVec ⟨1, ![16]⟩ 1)
    (h : ∀ a x, (idxs a x).toNat < (⟨2, ![32, 1024]⟩ : Shape).size a) (hv : ∀ x, v x = one)
    (hm : ∀ k : Fin 16, mask (Shape.ofLane k) = 1 ↔ lo ≤ rows (n + k.val) ∧ rows (n + k.val) < lo + 32)
    (hi : ∀ k : Fin 16, mask (Shape.ofLane k) = 1 →
      (idxs 0 (Shape.ofLane k)).toNat = rows (n + k.val) - lo ∧ (idxs 1 (Shape.ofLane k)).toNat = cols (n + k.val)) :
    ∀ j, storeIdx g idxs v mask true h j = upTo rows cols (lo + (j 0).val) (j 1).val (n + 16) := by
  have := foldl_finRange (n := 16) (fun (g : Vec F ⟨2, ![32, 1024]⟩ .f32) k =>
      let x := Shape.ofLane k
      if mask x = 1 then
        let i := idxAt idxs h x
        let y := if true then Elt.idxAdd .f32 (g i) (v x) else v x
        fun j => if (∀ a, (j a).val = (i a).val) then y else g j
      else g)
    (fun m g => ∀ j, g j = upTo rows cols (lo + (j 0).val) (j 1).val (n + m)) g (by simpa using hg) (by
      intro k g hg j
      have hj0 : (j 0).val < 32 := (j 0).isLt
      show (if mask (Shape.ofLane k) = 1 then _ else g) j = upTo rows cols _ _ (n + k.val + 1)
      rw [upTo]
      by_cases hk : mask (Shape.ofLane k) = 1
      · have hk' := (hm k).1 hk
        have hki := hi k hk
        rw [if_pos hk]
        have hall : (∀ a, (j a).val = (idxAt idxs h (Shape.ofLane k) a).val) ↔
            (j 0).val = rows (n + k.val) - lo ∧ (j 1).val = cols (n + k.val) := by
          rw [← hki.1, ← hki.2]; exact Fin.forall_fin_two
        by_cases hc : rows (n + k.val) = lo + (j 0).val ∧ cols (n + k.val) = (j 1).val
        · rw [if_pos hc]
          refine (if_pos (hall.2 ⟨?_, hc.2.symm⟩)).trans ?_
          · rw [hc.1, Nat.add_sub_cancel_left]
          show FloatOps.idxAddf (g (idxAt idxs h (Shape.ofLane k))) (v (Shape.ofLane k)) = _
          rw [hv, hg]
          show FloatOps.idxAddf (upTo rows cols (lo + (idxs 0 (Shape.ofLane k)).toNat) (idxs 1 (Shape.ofLane k)).toNat (n + k.val)) one = _
          rw [hki.1, hki.2, hc.2, hc.1, Nat.add_sub_cancel_left]
        · rw [if_neg hc]
          refine (if_neg fun e => hc ?_).trans (hg j)
          have e := hall.1 e
          exact ⟨by rw [e.1]; exact (Nat.add_sub_cancel' hk'.1).symm, e.2.symm⟩
      · rw [if_neg hk, if_neg fun e => hk ((hm k).2 ⟨by rw [e.1]; exact Nat.le_add_right _ _, by rw [e.1]; exact Nat.add_lt_add_left hj0 _⟩), hg])
  exact this

end Cert.Proof.Count

end
-- ==== Proof.KernelIdealSetup.lean ====
/-
  The SparseCore call as its launch sees it: the resource algebra, the arrays the call's tiles read and write, and what
  each tile is handed and hands back. The counts a tile brings back are named here (`counts`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Count

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The SparseCore part of the program. -/
abbrev K : SparseCore.Cfg τ sig (Pipeline.Sig Λ₀ (Fin 3) fun p => (pcfgs (F := F) p).Adm) 1 := sc (F := F)
/-- The bodies its processors run. -/
abbrev D [FloatOps F] : Defs nD τ sig (Elt F) (Pipeline.Sig Λ₀ (Fin 3) fun p => (pcfgs (F := F) p).Adm) := Pipeline.defs pcfgs defs₀
abbrev 𝒱₀ : Variants := Variants.none
abbrev 𝒱 : Variants := 𝒱₀.lift
abbrev v₀ : 𝒱.V := Sum.inl none

/-- The launch's own semaphores are distinct, none of them scoped, and no buffer is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the launch's rounds, the TensorCore calls' staging rounds and the transfers' counters -/

abbrev UH : Type := URounds (GSem nD τ sig) ℕ
abbrev UP : Type := URounds (GSem nD τ sig) Unit
abbrev UU : Type := UH × (UP × Counters)
abbrev M (F : FTy → Type) : Type _ := MT nD τ sig (HIx 1) (Elt F) ℕ UU ℕ
abbrev EH : Emb UH (M F) := embL
abbrev ER : Emb (UP × Counters) (M F) := embR
def EP : Emb UP (M F) := (Emb.inl : Emb UP (UP × Counters)).trans ER

instance EP_landsIn : (EP : Emb UP (M F)).LandsIn (upEmb : UEmb _ (M F)) := by unfold EP; infer_instance

local notation "𝕄" => MT nD τ sig (HIx 1) (Elt F) ℕ UU ℕ

/-! ## The arrays -/

/-- The list of edge rows, the list of edge columns, the count matrix: device `d`'s. -/
abbrev rLoc (d : Dev nD) : Loc nD τ sig := (SparseCore.T d).loc main_v1
abbrev cLoc (d : Dev nD) : Loc nD τ sig := (SparseCore.T d).loc main_v3
abbrev oLoc (d : Dev nD) : Loc nD τ sig := (SparseCore.T d).loc main_v4

/-- Tile `(c, s)` is the `2 s + c`-th of thirty-two. -/
def wid (c : Fin 2) (s : Fin 16) : Fin 32 := ⟨2 * s.val + c.val, by omega⟩

theorem odiv : 32 ∣ S1024x1024.size 0 := ⟨32, rfl⟩
/-- The thirty-two rows of the count matrix tile `w` fills. -/
abbrev oRows (w : Fin 32) : Finset S1024x1024.Idx := (Rect.part (s := S1024x1024) (a₀ := 0) odiv w).set

/-- Entry `e` of a list, as a natural number; past the end, a number no row or column has. -/
def entry (x : S16384.Idx → BitVec 32) (e : ℕ) : ℕ := if h : e < 16384 then (x (Shape.ofLane (d := ![16384]) ⟨e, h⟩)).toNat else 1024

/-- The count matrix of an edge list: at `(r, c)`, one added for each edge with row `r` and column `c`. -/
def counts [FloatOps F] (R C : S16384.Idx → BitVec 32) : S1024x1024.Idx → F .f32 :=
  fun j => Count.upTo (entry R) (entry C) (j 0).val (j 1).val 16384

/-- A tile's share of a list every tile reads. -/
abbrev rq (w : Fin 32) : PosShare TreeShare := Transfers.shareTok fullShare 32 w

section Pay

variable (R : (d : Dev nD) → Buf (Elt F) (rLoc d)) (C : (d : Dev nD) → Buf (Elt F) (cLoc d)) (O₀ : (d : Dev nD) → Buf (Elt F) (oLoc d))

/-- What tile `w` is handed: a share of both lists, its rows of the count matrix; -/
abbrev tilePre (d : Dev nD) (w : Fin 32) : sProp 𝕄 :=
  iprop((rLoc d ↦{rq w} R d) ∗ (cLoc d ↦{rq w} C d) ∗ oLoc d ↦[oRows w]{fullShare} O₀ d)

variable [FloatOps F]

/-- and what it hands back: the same, its rows at the counts. -/
abbrev tilePost (d : Dev nD) (w : Fin 32) : sProp 𝕄 :=
  iprop((rLoc d ↦{rq w} R d) ∗ (cLoc d ↦{rq w} C d) ∗ oLoc d ↦[oRows w]{fullShare} (counts (F := F) (R d) (C d) : Buf (Elt F) (oLoc d)))

/-- What the call's handshakes carry: to and from a core its tiles' pieces, to and from a tile its own. -/
def P : (K (F := F)).Pay (nD := nD) (Val := Elt F) (Name := ℕ) (U := UU) where
  st := fun q d c => match q with | 0 => bigSep Finset.univ fun s : Fin 16 => tilePre R C O₀ d (wid c s)
  dn := fun q d c => match q with | 0 => bigSep Finset.univ fun s : Fin 16 => tilePost R C d (wid c s)
  go := fun q d c s => match q with | 0 => tilePre R C O₀ d (wid c s)
  td := fun q d c s => match q with | 0 => tilePost R C d (wid c s)
  x := fun _ _ => iprop(emp)

instance P_storable : (P R C O₀).IsStorable where
  st q d c := match q with
    | 0 => (inferInstance : BI.Storable (upEmb : UEmb _ 𝕄) (bigSep Finset.univ fun s : Fin 16 => tilePre R C O₀ d (wid c s)))
  dn q d c := match q with
    | 0 => (inferInstance : BI.Storable (upEmb : UEmb _ 𝕄) (bigSep Finset.univ fun s : Fin 16 => tilePost R C d (wid c s)))
  go q d c s := match q with | 0 => (inferInstance : BI.Storable (upEmb : UEmb _ 𝕄) (tilePre R C O₀ d (wid c s)))
  td q d c s := match q with | 0 => (inferInstance : BI.Storable (upEmb : UEmb _ 𝕄) (tilePost R C d (wid c s)))

/-- Every row and every column an edge names is below 1024. -/
def InRange : Prop := ∀ (d : Dev nD) (j : S16384.Idx), ((R d : S16384.Idx → BitVec 32) j).toNat < 1024 ∧ ((C d : S16384.Idx → BitVec 32) j).toNat < 1024

end Pay

end Cert.Proof.OfKernelIdeal

end
-- ==== Proof.KernelIdealTile.lean ====
/-
  One tile's body, at a symbolic tile: its block of the count matrix cleared, both edge lists fetched, the edges added
  sixteen at a time, the block written out. The value is carried by the loops' invariants.
-/
module

public import proofs.«01_k».proof.Proof.KernelIdealSetup
public import Idealize.ShloMosaic.Lib.WritesUnit

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

abbrev rV : Memref sig .scVector .hbm S16384 .i32 := Memref.whole main_v1_scv
abbrev cV : Memref sig .scVector .hbm S16384 .i32 := Memref.whole main_v3_scv
abbrev oV : Memref sig .scVector .hbm S1024x1024 .f32 := Memref.whole main_v4_scv
abbrev aV : Memref sig .scVector .vmem S32x1024 .f32 := Memref.whole cc0_scratch0
abbrev s1V : Memref sig .scVector .vmem S16384 .i32 := Memref.whole cc0_scratch1
abbrev s2V : Memref sig .scVector .vmem S16384 .i32 := Memref.whole cc0_scratch2

variable (d : Dev nD) (L : grid0.Coords)

/-- The thread of the tile at coordinates `L`. -/
abbrev thr : Thread nD τ := V d ((L 0).castLE hcore0) ((L 1).castLE hsub0)
/-- Its number. -/
abbrev wL : Fin 32 := wid (L 0) (L 1)
/-- Its first row. -/
abbrev lo : ℕ := 64 * (L 1).val + 32 * (L 0).val

abbrev oK : Memref sig .scVector .hbm S32x1024 .f32 := oV.slice (Rect.unit (s := S1024x1024) (k0_off3 L) S32x1024.size (k0_off3_inb L)) (fun _ => rfl)

theorem rect_oK : Rect.unit (s := S1024x1024) (k0_off3 L) S32x1024.size (k0_off3_inb L) = Rect.part (s := S1024x1024) (a₀ := 0) odiv (wL L) := by
  unfold Rect.part Rect.block
  congr 1 <;> funext a
  · rw [k0_off3_eq]
    match a with
    | 0 => simp [Shape.partIx, Shape.partSize, wL, wid]; omega
    | 1 => simp [Shape.partIx, Shape.partSize]
  · match a with
    | 0 => simp [Shape.partSize]
    | 1 => simp [Shape.partSize]

theorem set_oK : (oK L).view.set = oRows (wL L) := by
  show ((View.whole (main_v4_scv : Ref sig .scVector)).slice (Rect.unit (s := S1024x1024) (k0_off3 L) S32x1024.size (k0_off3_inb L))).set = _
  rw [View.set_slice, rect_oK]; exact Finset.map_refl

theorem pts_oK (f : Buf (Elt F) (oLoc d)) :
    ((oK L).view.loc (thr d L) ↦[(oK L).view.set]{fullShare} f : sProp 𝕄) = oLoc d ↦[oRows (wL L)]{fullShare} f := by
  rw [set_oK]
theorem pts_rV (q : PosShare TreeShare) (f : Buf (Elt F) (rLoc d)) :
    (rV.view.loc (thr d L) ↦{q} f : sProp 𝕄) = rLoc d ↦{q} f := rfl
theorem pts_cV (q : PosShare TreeShare) (f : Buf (Elt F) (cLoc d)) :
    (cV.view.loc (thr d L) ↦{q} f : sProp 𝕄) = cLoc d ↦{q} f := rfl
theorem pts_aV (f : Buf (Elt F) ((thr d L).loc cc0_scratch0)) :
    (aV.view.loc (thr d L) ↦{fullShare} f : sProp 𝕄) = (thr d L).loc cc0_scratch0 ↦{fullShare} f := rfl
theorem pts_s1V (f : Buf (Elt F) ((thr d L).loc cc0_scratch1)) :
    (s1V.view.loc (thr d L) ↦{fullShare} f : sProp 𝕄) = (thr d L).loc cc0_scratch1 ↦{fullShare} f := rfl
theorem pts_s2V (f : Buf (Elt F) ((thr d L).loc cc0_scratch2)) :
    (s2V.view.loc (thr d L) ↦{fullShare} f : sProp 𝕄) = (thr d L).loc cc0_scratch2 ↦{fullShare} f := rfl

/-- The tile's three transfer semaphores. -/
abbrev cell0 : GSem nD τ sig := (thr d L, .dma cc0_scoped0.sem)
abbrev cell1 : GSem nD τ sig := (thr d L, .dma cc0_scoped1.sem)
abbrev cell2 : GSem nD τ sig := (thr d L, .dma cc0_scoped2.sem)

theorem sems_tile :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- What is left of the tile's buffers beside its three scratch buffers. -/
abbrev restRefs : Finset (DevRef τ sig) :=
  (((ownRefs (τ := τ) (thr d L).2).erase ((thr d L).2.devRef cc0_scratch0)).erase ((thr d L).2.devRef cc0_scratch1)).erase ((thr d L).2.devRef cc0_scratch2)

theorem bufs_tile :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep (restRefs d L) fun b => iprop(∃ f, ((d, b) : Loc nD τ sig) ↦{fullShare} f)) := by
  unfold SparseCore.Cfg.ownBufs
  refine (SparseCore.bigSep_erase' (SparseCore.Cfg.mem_ownRefs_of_owner (p := (thr d L).2)
    (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩),
    SparseCore.bigSep_erase' (Finset.mem_erase.mpr ⟨fun e => absurd (Proc.devRef_injective _ e) (show (cc0_scratch2 : Ref sig .scVector) ≠ cc0_scratch1 by decide),
    Finset.mem_erase.mpr ⟨fun e => absurd (Proc.devRef_injective _ e) (show (cc0_scratch2 : Ref sig .scVector) ≠ cc0_scratch0 by decide),
      SparseCore.Cfg.mem_ownRefs_of_owner (p := (thr d L).2) (b := (thr d L).2.devRef cc0_scratch2) rfl⟩⟩)]

variable [FloatOps F]

/-! ## The loops' invariants -/

/-- After `k` rows of the block are cleared. -/
def cleared (k : ℕ) (_ : PUnit) : sProp 𝕄 :=
  iprop(∃ f : Buf (Elt F) ((thr d L).loc cc0_scratch0), (aV.view.loc (thr d L) ↦{fullShare} f) ∗ ⌜∀ j : S32x1024.Idx, (j 0).val < k → (f : S32x1024.Idx → F .f32) j = Count.zero⌝)

/-- After `k` sixteens of row `r` are cleared too. -/
def clearedRow (r : ℕ) (k : ℕ) (_ : PUnit) : sProp 𝕄 :=
  iprop(∃ f : Buf (Elt F) ((thr d L).loc cc0_scratch0), (aV.view.loc (thr d L) ↦{fullShare} f)
    ∗ ⌜∀ j : S32x1024.Idx, (j 0).val < r ∨ ((j 0).val = r ∧ (j 1).val < 16 * k) → (f : S32x1024.Idx → F .f32) j = Count.zero⌝)

/-- After `k` sixteens of edges are added: the block at the counts so far, both fetched lists as fetched. -/
def added (R C : S16384.Idx → BitVec 32) (k : ℕ) (_ : PUnit) : sProp 𝕄 :=
  iprop((∃ f : Buf (Elt F) ((thr d L).loc cc0_scratch0), (aV.view.loc (thr d L) ↦{fullShare} f)
      ∗ ⌜∀ j : S32x1024.Idx, (f : S32x1024.Idx → F .f32) j = Count.upTo (entry R) (entry C) (lo L + (j 0).val) (j 1).val (16 * k)⌝)
    ∗ (s1V.view.loc (thr d L) ↦{fullShare} (R : Buf (Elt F) ((thr d L).loc cc0_scratch1)))
    ∗ (s2V.view.loc (thr d L) ↦{fullShare} (C : Buf (Elt F) ((thr d L).loc cc0_scratch2))))

/-! ## The words of a trip -/

theorem trips1 : Scf.trips k0_t1_loop.lb k0_t1_loop.ub k0_t1_loop.st = 32 := by decide
theorem trips2 : Scf.trips k0_t2_loop.lb k0_t2_loop.ub k0_t2_loop.st = 64 := by decide
theorem trips3 : Scf.trips k0_t3_loop.lb k0_t3_loop.ub k0_t3_loop.st = 1024 := by decide +kernel

/-- The tile's first row as the kernel computes it. -/
theorem lo_word : (Scalar.muli (Scalar.addi (Scalar.muli (BitVec.ofNat 32 (L 1).val) 2#32) (BitVec.ofNat 32 (L 0).val)) 32#32).toNat = lo L := by
  have h1 : (L 1).val < 16 := (L 1).isLt
  have h0 : (L 0).val < 2 := (L 0).isLt
  simp only [Scalar.muli, Scalar.addi, IntOp.muli, IntOp.addi, BitVec.toNat_mul, BitVec.toNat_add, BitVec.toNat_ofNat, Nat.reducePow, Nat.reduceMod]
  unfold lo; omega

/-- A lane is on exactly when its row is one of the tile's. -/
theorem mask_iff (v : Vec F S16 .i32) (x : S16.Idx) (hv : (v x : BitVec 32).toNat < 1024) :
    k0_pay3 L v x = 1 ↔ lo L ≤ (v x : BitVec 32).toNat ∧ (v x : BitVec 32).toNat < lo L + 32 := by
  have h1 : (L 1).val < 16 := (L 1).isLt
  have h0 : (L 0).val < 2 := (L 0).isLt
  have hlo := lo_word L
  have hlo' : lo L ≤ 992 := by unfold lo; omega
  show IntOp.andi (IntOp.cmpi .sge (v x) (Scalar.muli (Scalar.addi (Scalar.muli (BitVec.ofNat 32 (L 1).val) 2#32) (BitVec.ofNat 32 (L 0).val)) 32#32))
    (IntOp.cmpi .slt (v x) (Scalar.addi (Scalar.muli (Scalar.addi (Scalar.muli (BitVec.ofNat 32 (L 1).val) 2#32) (BitVec.ofNat 32 (L 0).val)) 32#32) 32#32)) = 1#1 ↔ _
  generalize Scalar.muli (Scalar.addi (Scalar.muli (BitVec.ofNat 32 (L 1).val) 2#32) (BitVec.ofNat 32 (L 0).val)) 32#32 = b at hlo ⊢
  generalize hw : (v x : BitVec 32) = w at hv ⊢
  have hand : ∀ p q : Bool, IntOp.andi (BitVec.ofBool p) (BitVec.ofBool q) = 1#1 ↔ p = true ∧ q = true := by decide
  simp only [IntOp.cmpi, hand, BitVec.sle_eq_decide, BitVec.slt_eq_decide, decide_eq_true_eq, BitVec.toInt_eq_toNat_cond, Scalar.addi, IntOp.addi, BitVec.toNat_add, BitVec.toNat_ofNat]
  omega

/-- The place a lane that is on names: its row counted from the tile's first, its column. -/
theorem row_word (v : Vec F S16 .i32) (x : S16.Idx) (hv : (v x : BitVec 32).toNat < 1024) (h : k0_pay3 L v x = 1) :
    (k0_pay4 L v x).toNat = (v x : BitVec 32).toNat - lo L := by
  have hm := (mask_iff L v x hv).1 h
  have hlo := lo_word L
  show (if k0_pay3 L v x = 1 then (v x : BitVec 32) - Scalar.muli (Scalar.addi (Scalar.muli (BitVec.ofNat 32 (L 1).val) 2#32) (BitVec.ofNat 32 (L 0).val)) 32#32 else 0#32).toNat = _
  rw [if_pos h, BitVec.toNat_sub_of_le (by rw [BitVec.le_def, hlo]; exact hm.1), hlo]

theorem col_word (v w : Vec F S16 .i32) (x : S16.Idx) (h : k0_pay3 L v x = 1) : (k0_pay5 L v w x : BitVec 32) = w x := by
  show (if k0_pay3 L v x = 1 then (w x : BitVec 32) else 0#32) = _
  rw [if_pos h]

/-- Every place a lane names is inside the block, the lanes that are off naming its first. -/
theorem chk_of (v w : Vec F S16 .i32) (hv : ∀ x, (v x : BitVec 32).toNat < 1024) (hw : ∀ x, (w x : BitVec 32).toNat < 1024) :
    k0_chk1 (k0_pay4 L v) (k0_pay5 L v w) := by
  refine Fin.forall_fin_two.2 ⟨fun x => ?_, fun x => ?_⟩
  · show (k0_pay4 L v x).toNat < 32
    by_cases h : k0_pay3 L v x = 1
    · rw [row_word L v x (hv x) h]; have := (mask_iff L v x (hv x)).1 h; omega
    · show (if k0_pay3 L v x = 1 then (v x : BitVec 32) - Scalar.muli (Scalar.addi (Scalar.muli (BitVec.ofNat 32 (L 1).val) 2#32) (BitVec.ofNat 32 (L 0).val)) 32#32 else 0#32).toNat < 32
      rw [if_neg h]; decide
  · show (k0_pay5 L v w x : BitVec 32).toNat < 1024
    by_cases h : k0_pay3 L v x = 1
    · rw [col_word L v w x h]; exact hw x
    · show (if k0_pay3 L v x = 1 then (w x : BitVec 32) else 0#32).toNat < 1024
      rw [if_neg h]; decide

/-- Lane `x` of trip `k`'s load of a fetched list is entry `16 k + x`. -/
theorem entry_load (X : S16384.Idx → BitVec 32) (k : Fin k0_t3_loop.trips) (l : Fin 16) :
    entry X (16 * k.val + l.val)
      = (View.readAt (Elt F) s1V.view (Rect.unit (s := S16384) (k0_off2 k) S16.size (k0_off2_inb k)).toLoadRect X (Shape.ofLane (d := ![16]) l) : BitVec 32).toNat := by
  have hk : k.val < 1024 := trips3 ▸ k.isLt
  unfold entry
  rw [dif_pos (by omega)]
  show _ = (X _ : BitVec 32).toNat
  congr 2
  funext a
  match a with
  | 0 =>
    apply Fin.ext
    show 16 * k.val + l.val = k0_off2 k 0 + 1 * l.val
    rw [k0_off2_eq]; simp

/-- A store of sixteen zeros: the places it covers are zero, the others as before. -/
theorem clear_store (k1 : Fin k0_t1_loop.trips) (k2 : Fin k0_t2_loop.trips) (f : S32x1024.Idx → F .f32) (j : S32x1024.Idx) :
    (aV.view.writes (Elt F) f [⟨Rect.unit (s := S32x1024) (k0_off1 k1 k2) S1x16.size (k0_off1_inb k1 k2), shapeCast S1x16 k0_pay1 shapeCasts_S16_S1x16⟩] : S32x1024.Idx → F .f32) j
      = if (j 0).val = k1.val ∧ 16 * k2.val ≤ (j 1).val ∧ (j 1).val < 16 * k2.val + 16 then Count.zero else f j := by
  have h := View.read_writes_cons_unit aV.view (Val := Elt F) f (k0_off1_inb k1 k2) (shapeCast S1x16 k0_pay1 shapeCasts_S16_S1x16) [] j (k0_off1_eq k1 k2)
  refine (show _ = _ from h).trans ?_
  have hiff : (∀ a, (![k1.val, 16 * k2.val] : Fin 2 → ℕ) a ≤ (j a).val ∧ (j a).val < (![k1.val, 16 * k2.val] : Fin 2 → ℕ) a + S1x16.size a)
      ↔ ((j 0).val = k1.val ∧ 16 * k2.val ≤ (j 1).val ∧ (j 1).val < 16 * k2.val + 16) := by
    refine Fin.forall_fin_two.trans ?_
    show (k1.val ≤ (j 0).val ∧ (j 0).val < k1.val + 1) ∧ (16 * k2.val ≤ (j 1).val ∧ (j 1).val < 16 * k2.val + 16) ↔ _
    omega
  by_cases hc : (j 0).val = k1.val ∧ 16 * k2.val ≤ (j 1).val ∧ (j 1).val < 16 * k2.val + 16
  · rw [if_pos hc]; exact dif_pos (hiff.2 hc)
  · rw [if_neg hc]; exact dif_neg fun e => hc (hiff.1 e)

/-- One trip of the edge loop, on contents: the counts after `16 k` edges become those after `16 (k + 1)`. -/
theorem add_trip (R C : S16384.Idx → BitVec 32) (hpre : ∀ j, (R j).toNat < 1024 ∧ (C j).toNat < 1024) (k : Fin k0_t3_loop.trips)
    (v w : Vec F S16 .i32)
    (hv : v = View.readAt (Elt F) s1V.view (Rect.unit (s := S16384) (k0_off2 k) S16.size (k0_off2_inb k)).toLoadRect R)
    (hw : w = View.readAt (Elt F) s2V.view (Rect.unit (s := S16384) (k0_off2 k) S16.size (k0_off2_inb k)).toLoadRect C)
    (f : Vec F S32x1024 .f32) (hf : ∀ j : S32x1024.Idx, f j = Count.upTo (entry R) (entry C) (lo L + (j 0).val) (j 1).val (16 * k.val))
    (h : ∀ a x, ((![k0_pay4 L v, k0_pay5 L v w] : Fin 2 → IVec S16 32) a x).toNat < S32x1024.size a) (j : S32x1024.Idx) :
    storeIdx f ![k0_pay4 L v, k0_pay5 L v w] (k0_pay2 (F := F)) (k0_pay3 L v) true h j
      = Count.upTo (entry R) (entry C) (lo L + (j 0).val) (j 1).val (16 * (k.val + 1)) := by
  have hv' : ∀ x, (v x : BitVec 32).toNat < 1024 := fun x => by subst hv; exact (hpre _).1
  have ev : ∀ l : Fin 16, entry R (16 * k.val + l.val) = (v (Shape.ofLane (d := ![16]) l) : BitVec 32).toNat := fun l => by
    subst hv; exact entry_load (F := F) R k l
  have ew : ∀ l : Fin 16, entry C (16 * k.val + l.val) = (w (Shape.ofLane (d := ![16]) l) : BitVec 32).toNat := fun l => by
    subst hw; exact entry_load (F := F) C k l
  refine Count.storeIdx_upTo (entry R) (entry C) (lo L) (16 * k.val) f hf ![k0_pay4 L v, k0_pay5 L v w] (k0_pay2 (F := F)) (k0_pay3 L v) h (fun _ => rfl)
    (fun l => ?_) (fun l hl => ?_) j
  · rw [ev]; exact mask_iff L v _ (hv' _)
  · rw [ev, ew]
    exact ⟨row_word L v _ (hv' _) hl, congrArg BitVec.toNat (col_word L v w _ hl)⟩

/-- The block written out: on the tile's rows, the count matrix. -/
theorem written (R C : S16384.Idx → BitVec 32) (o : Buf (Elt F) (oLoc d)) (h : S32x1024.Idx → F .f32)
    (hh : ∀ j : S32x1024.Idx, h j = Count.upTo (entry R) (entry C) (lo L + (j 0).val) (j 1).val (16 * 1024)) :
    ∀ i ∈ (oK L).view.set, (oK L).view.writes (Elt F) o [⟨Rect.whole S32x1024, h⟩] i = (counts R C : Buf (Elt F) (oLoc d)) i := by
  intro i hi
  obtain ⟨x, -, hx⟩ := Finset.mem_map.mp hi
  have e := View.read_writes_cons_emb (oK L).view (Val := Elt F) (f := o) (Rect.whole S32x1024) h [] x
  rw [Rect.emb_whole_apply] at e
  generalize (oK L).view.writes (Elt F) o [⟨Rect.whole S32x1024, h⟩] = W at e ⊢
  have e' : W ((oK L).view.emb x) = h x := e
  have e0 : (((oK L).view.emb x : S1024x1024.Idx) 0).val = lo L + (x 0).val := by
    show k0_off3 L 0 + 1 * (x 0).val = _
    rw [k0_off3_eq]; simp
  have e1 : (((oK L).view.emb x : S1024x1024.Idx) 1).val = (x 1).val := by
    show k0_off3 L 1 + 1 * (x 1).val = _
    rw [k0_off3_eq]; simp
  rw [← hx, e', hh]
  refine Eq.trans ?_ (show Count.upTo (entry R) (entry C) (((oK L).view.emb x : S1024x1024.Idx) 0).val (((oK L).view.emb x : S1024x1024.Idx) 1).val 16384 = _ from rfl)
  rw [e0, e1]

section Body

variable (R : (d : Dev nD) → Buf (Elt F) (rLoc d)) (C : (d : Dev nD) → Buf (Elt F) (cLoc d)) (O₀ : (d : Dev nD) → Buf (Elt F) (oLoc d))

set_option maxHeartbeats 4000000 in
/-- The body on the tile at `L`: from its pieces, it hands back its rows of the count matrix at the counts. -/
theorem tile_body (hF : (K (F := F)).Facts) (hpre : InRange R C) (O : CellTallies nD τ sig (HIx 1)) (W : Waits sig (HIx 1)) (hO : ∀ g, O g none = 0) :
    iprop(levAts (K (F := F)).L (K (F := F)).lev ∗ emp ∗ tilePre R C O₀ d (wL L)
        ∗ scopedBufs (thr d L) ∗ scopedSems0 (thr d L) ∗ owes (thr d L) O W)
      ⊢ wp frame (wpE (defs₀ (F := F)) 𝒱₀ (thr d L) none) Set.univ
          (cc0_sc_kernel L rV (Memref.isWhole_whole _) cV (Memref.isWhole_whole _) oV (Memref.isWhole_whole _)
            aV (Memref.isWhole_whole _) s1V (Memref.isWhole_whole _) s2V (Memref.isWhole_whole _) cc0_scoped0 cc0_scoped1 cc0_scoped2)
          fun _ => iprop(tilePost R C d (wL L)
            ∗ scopedBufs (thr d L) ∗ scopedSems0 (thr d L)
            ∗ ∃ W', ⌜∀ p ∈ W', p ∈ W ∨ p.2 = none⌝ ∗ owes (thr d L) O W') := by
  simp only [cc0_sc_kernel_eq_skeleton]; unfold cc0_sc_kernel_skel
  rw [(K (F := F)).scopedBufs_V hF d ((L 0).castLE hcore0) ((L 1).castLE hsub0), SparseCore.Cfg.scopedSems0_V (Val := Elt F) d ((L 0).castLE hcore0) ((L 1).castLE hsub0), sems_tile, bufs_tile]
  iintro ⟨#Hlv, -, ⟨Hr, Hc, Ho⟩, ⟨⟨%fa, Ha⟩, ⟨%f1, H1⟩, ⟨%f2, H2⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hr' := (Entails.of_eq (pts_rV (F := F) d L _ _).symm) $$ Hr
  ihave Hc' := (Entails.of_eq (pts_cV (F := F) d L _ _).symm) $$ Hc
  ihave Ho' := (Entails.of_eq (pts_oK (F := F) d L _).symm) $$ Ho
  ihave Ha' := (Entails.of_eq (pts_aV (F := F) d L _).symm) $$ Ha
  ihave H1' := (Entails.of_eq (pts_s1V (F := F) d L _).symm) $$ H1
  ihave H2' := (Entails.of_eq (pts_s2V (F := F) d L _).symm) $$ H2
  sl_for (cleared d L) $$ [Ha']
  case region =>
    intro k _
    unfold cleared
    iintro ⟨%f, Ha, %hf⟩
    sl_exec
    sl_for (clearedRow d L k.val) $$ [Ha]
    case region =>
      intro k2 _
      unfold clearedRow
      iintro ⟨%f, Ha, %hf⟩
      sl_exec
      sl_step
      iexists _
      isplitl [Ha]; · iexact Ha
      ipureintro; intro j hj
      refine (clear_store k k2 f j).trans ?_
      split
      · rfl
      · exact hf j (by omega)
    · unfold clearedRow
      iexists f
      isplitl [Ha]; · iexact Ha
      ipureintro; intro j hj; exact hf j (by omega)
    iintro %_ HI
    unfold clearedRow
    icases HI with ⟨%g, Ha, %hg⟩
    sl_exec
    sl_step
    iexists g
    isplitl [Ha]; · iexact Ha
    ipureintro; intro j hj
    have hj1 : (j 1).val < 1024 := (j 1).isLt
    exact hg j (by have := trips2; omega)
  · unfold cleared
    iexists fa
    isplitl [Ha']; · iexact Ha'
    ipureintro; intro j hj; exact absurd hj (Nat.not_lt_zero _)
  iintro %_ HI
  unfold cleared
  icases HI with ⟨%g, Ha, %hg⟩
  sl_exec
  sl_for (added d L (R d) (C d)) $$ [Ha H1' H2']
  case region =>
    intro k _
    unfold added
    iintro ⟨⟨%f, Ha, %hf⟩, H1, H2⟩
    sl_exec
    rw [wp_assume_of _ _ _ _ (show k0_chk1 (tile_body.sl.v22 d L R k) (tile_body.sl.v24 d L R C k) from chk_of L (View.readAt (Elt F) s1V.view (Rect.unit (s := S16384) (k0_off2 k) S16.size (k0_off2_inb k)).toLoadRect (R d))
      (View.readAt (Elt F) s2V.view (Rect.unit (s := S16384) (k0_off2 k) S16.size (k0_off2_inb k)).toLoadRect (C d)) (fun x => (hpre d _).1) (fun x => (hpre d _).2))]
    have hwh : (aV.access (Rect.whole S32x1024)).set = Finset.univ := Memref.set_access_whole cc0_scratch0
    ihave Ha' := (Entails.of_eq (show (aV.view.loc (thr d L) ↦{fullShare} f : sProp 𝕄)
      = ((aV.access (Rect.whole S32x1024)).loc (thr d L) ↦[(aV.access (Rect.whole S32x1024)).set]{fullShare} f) by rw [hwh])) $$ Ha
    iapply (SparseCore.wp_vectorStoreIdx 𝒱₀ (thr d L) none Set.univ (base := aV)) $$ Ha'; iintro Ha
    sl_step
    isplitl [Ha]
    · iexists _
      isplitl [Ha]
      · rw [hwh]; iexact Ha
      ipureintro; intro j
      rw [show (aV.access (Rect.whole S32x1024)).read (Elt F) f = f from Memref.read_access_whole (Elt F) cc0_scratch0 f]
      refine (congrFun (Memref.write_access_whole_univ (Elt F) cc0_scratch0 f _) j).trans ?_
      exact add_trip L (R d) (C d) (hpre d) k _ _ rfl rfl f hf _ j
    isplitl [H1]; · iexact H1
    iexact H2
  · unfold added
    isplitl [Ha]
    · iexists g
      isplitl [Ha]; · iexact Ha
      ipureintro; intro j
      exact hg j (by have := trips1; have hj : (j 0).val < 32 := (j 0).isLt; omega)
    isplitl [H1']
    · iapply (Entails.of_eq (show (s1V.view.loc (thr d L) ↦{fullShare} View.write (Elt F) s1V.view f1 (tile_body.sl.dma0 d R) Finset.univ : sProp 𝕄)
        = (s1V.view.loc (thr d L) ↦{fullShare} (R d : Buf (Elt F) ((thr d L).loc cc0_scratch1))) from congrArg (fun g : Buf (Elt F) ((thr d L).loc cc0_scratch1) => (s1V.view.loc (thr d L) ↦{fullShare} g : sProp 𝕄)) (View.write_whole_univ cc0_scratch1 f1 (tile_body.sl.dma0 d R)))); iexact H1'
    · iapply (Entails.of_eq (show (s2V.view.loc (thr d L) ↦{fullShare} View.write (Elt F) s2V.view f2 (tile_body.sl.dma0_1 d C) Finset.univ : sProp 𝕄)
        = (s2V.view.loc (thr d L) ↦{fullShare} (C d : Buf (Elt F) ((thr d L).loc cc0_scratch2))) from congrArg (fun g : Buf (Elt F) ((thr d L).loc cc0_scratch2) => (s2V.view.loc (thr d L) ↦{fullShare} g : sProp 𝕄)) (View.write_whole_univ cc0_scratch2 f2 (tile_body.sl.dma0_1 d C)))); iexact H2'
  iintro %_ HI
  unfold added
  icases HI with ⟨⟨%h, Ha, %hh⟩, H1, H2⟩
  sl_exec
  sl_step
  isplitl [Hr' Hc' Ho']
  · isplitl [Hr']; · iexact Hr'
    isplitl [Hc']; · iexact Hc'
    ihave Ho := (Entails.of_eq (pointsTo_congr (written d L (R d) (C d) (O₀ d) h (fun j => trips3 ▸ hh j)))) $$ Ho'
    iapply (Entails.of_eq (pts_oK (F := F) d L _)); iexact Ho
  isplitl [Ha H1 H2 Hbufs]
  · isplitl [Ha]; · iexists _; iexact Ha
    isplitl [H1]; · iexists _; iexact H1
    isplitl [H2]; · iexists _; iexact H2
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

end Body

end Cert.Proof.OfKernelIdeal

end
-- ==== Proof.KernelIdealCall.lean ====
/-
  The SparseCore call from the TensorCore's side: its tiles' obligation, how its three arrays split over the thirty-two
  tiles and join again, and what the one line of @main that makes the call does (`call`).
-/
module

public import proofs.«01_k».proof.Proof.KernelIdealTile
public import proofs.«01_k».proof.Proof.Gen.KernelIdeal.Launch
public import Idealize.ShloMosaic.Lib.Pipeline.Frame

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (R : (d : Dev nD) → Buf (Elt F) (rLoc d)) (C : (d : Dev nD) → Buf (Elt F) (cLoc d)) (O₀ : (d : Dev nD) → Buf (Elt F) (oLoc d))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem obl_post {thr : Thread nD τ} {A B E : sProp 𝕄} {O : CellTallies nD τ sig (HIx 1)} {W : Waits sig (HIx 1)} {q : Fin 1} :
    iprop(A ∗ B ∗ E ∗ ∃ W', ⌜∀ p ∈ W', p ∈ W ∨ p.2 = none⌝ ∗ owes thr O W')
      ⊢ iprop(A ∗ B ∗ E ∗ ∃ W', ⌜∀ p ∈ W', p ∈ W ∨ p.2 = none ∨ p.2 = some q⌝ ∗ owes thr O W') := by
  iintro ⟨HA, HB, HE, %W', %hW', HO⟩
  isplitl [HA]; · iexact HA
  isplitl [HB]; · iexact HB
  isplitl [HE]; · iexact HE
  iexists W'; isplitr
  · ipureintro; exact fun p hp => (hW' p hp).imp_right Or.inl
  · iexact HO

variable [FloatOps F]

theorem defs₀_vector (c : Fin τ.nSC) (s : Fin τ.nSub) :
    defs₀ (F := F) (.scVector c s) 0 ()
      = SparseCore.onTile hcore0 hsub0 (fun c s => cc0_sc_kernel (coordsV c s)
          rV (Memref.isWhole_whole _) cV (Memref.isWhole_whole _) oV (Memref.isWhole_whole _)
          aV (Memref.isWhole_whole _) s1V (Memref.isWhole_whole _) s2V (Memref.isWhole_whole _) cc0_scoped0 cc0_scoped1 cc0_scoped2) ⟨⟩ c s := rfl

set_option maxRecDepth 16384 in
/-- Every tile, from its pieces, runs to its pieces with its rows counted. -/
theorem tileObl (hF : (K (F := F)).Facts) (hpre : InRange R C) : (K (F := F)).TileObl (D (F := F)) 𝒱 (P R C O₀) v₀ 0 := by
  intro d c i O W hO _ _
  simp only [show (P R C O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) R C O₀ hF hpre O W hO).trans (wp_mono frame _ _ fun _ => obl_post)

/-- A core's operands are its tiles' together, and so are its results. -/
theorem vecSplit : (K (F := F)).VecSplit' (P R C O₀) 0 := by
  intro d c
  show (bigSep Finset.univ fun s : Fin 16 => tilePre R C O₀ d (wid c s)) ⊢ |={Set.univ}=> iprop(
      (bigSep Finset.univ fun s : Fin 16 => tilePre R C O₀ d (wid c s))
      ∗ ((bigSep Finset.univ fun s : Fin 16 => tilePost R C d (wid c s)) -∗ (bigSep Finset.univ fun s : Fin 16 => tilePost R C d (wid c s))))
  iintro H; imodintro
  isplitl [H]; · iexact H
  iintro H; iexact H

/-! ## The arrays over the tiles -/

omit [FloatOps F] in
/-- The thirty-two tiles as cores and subcores. -/
def tiles : Fin 2 × Fin 16 ≃ Fin 32 where
  toFun p := wid p.1 p.2
  invFun w := (⟨w.val % 2, by omega⟩, ⟨w.val / 2, by omega⟩)
  left_inv p := by
    have h1 := p.1.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem over_tiles (Φ : Fin 32 → sProp 𝕄) :
    bigSep Finset.univ Φ = bigSep Finset.univ fun c : Fin 2 => bigSep Finset.univ fun s : Fin 16 => Φ (wid c s) := by
  rw [← bigSep_univ_prod (fun p : Fin 2 × Fin 16 => Φ (wid p.1 p.2))]
  exact (bigSep_univ_equiv tiles Φ)

theorem oPts_rows (d : Dev nD) (f : Buf (Elt F) (oLoc d)) :
    (oLoc d ↦{fullShare} f : sProp 𝕄) = bigSep Finset.univ fun w : Fin 32 => oLoc d ↦[oRows w]{fullShare} f := by
  rw [← pointsTo_biUnion Finset.univ (ℓ := oLoc d) oRows (fun i _ j _ h => Rect.part_disjoint odiv h),
    show (Finset.univ : Finset (Fin 32)).biUnion oRows = Finset.univ from Rect.biUnion_part odiv]

/-- What is kept of both lists while the tiles read them. -/
abbrev kept (d : Dev nD) : sProp 𝕄 :=
  iprop((rLoc d ↦{Transfers.shareDrop fullShare 32} R d) ∗ (cLoc d ↦{Transfers.shareDrop fullShare 32} C d))

/-- The three arrays are the tiles' pieces beside what is kept; -/
theorem deal (d : Dev nD) : iprop((rLoc d ↦{fullShare} R d) ∗ (cLoc d ↦{fullShare} C d) ∗ oLoc d ↦{fullShare} O₀ d)
    ⊢ (iprop(kept R C d ∗ bigSep Finset.univ fun c : Fin ((K (F := F)).nCore 0) => (P R C O₀).st 0 d c) : sProp 𝕄) := by
  show _ ⊢ iprop(kept R C d ∗ bigSep Finset.univ fun c : Fin 2 => bigSep Finset.univ fun s : Fin 16 => tilePre R C O₀ d (wid c s))
  rw [← over_tiles (fun w => tilePre R C O₀ d w), bigSep_sep', bigSep_sep', oPts_rows]
  iintro ⟨Hr, Hc, Ho⟩
  ihave Hr := (Transfers.pointsTo_toks_split fullShare 32) $$ Hr
  ihave Hc := (Transfers.pointsTo_toks_split fullShare 32) $$ Hc
  icases Hr with ⟨Hr, Hrs⟩
  icases Hc with ⟨Hc, Hcs⟩
  isplitl [Hr Hc]
  · isplitl [Hr] <;> iassumption
  isplitl [Hrs]; · iexact Hrs
  isplitl [Hcs]; · iexact Hcs
  iexact Ho

/-- and the pieces the tiles bring back make them again, the count matrix counted. -/
theorem gather (d : Dev nD) : (iprop(kept R C d ∗ bigSep Finset.univ fun c : Fin ((K (F := F)).nCore 0) => (P R C O₀).dn 0 d c) : sProp 𝕄)
    ⊢ iprop((rLoc d ↦{fullShare} R d) ∗ (cLoc d ↦{fullShare} C d) ∗ oLoc d ↦{fullShare} (counts (F := F) (R d) (C d) : Buf (Elt F) (oLoc d))) := by
  show iprop(kept R C d ∗ bigSep Finset.univ fun c : Fin 2 => bigSep Finset.univ fun s : Fin 16 => tilePost R C d (wid c s)) ⊢ _
  rw [← over_tiles (fun w => tilePost R C d w), bigSep_sep', bigSep_sep', oPts_rows]
  iintro ⟨⟨Hr, Hc⟩, Hrs, Hcs, Ho⟩
  isplitl [Hr Hrs]
  · iapply (Transfers.pointsTo_toks_join fullShare 32); isplitl [Hr] <;> iassumption
  isplitl [Hc Hcs]
  · iapply (Transfers.pointsTo_toks_join fullShare 32); isplitl [Hc] <;> iassumption
  iexact Ho

/-! ## The call, over all of the TensorCore's arrays -/

abbrev r' : DevRef τ sig := Proc.devRef .tc main_v1
abbrev c' : DevRef τ sig := Proc.devRef .tc main_v3
abbrev o' : DevRef τ sig := Proc.devRef .tc main_v4

/-- The call's three arrays. -/
abbrev S3 : Finset (DevRef τ sig) := {r', c', o'}

theorem S3_sub : S3 ⊆ Pipeline.ucRefs τ sig := by decide

theorem held_S3 (d : Dev nD) (V : Valuation τ sig (Elt F)) :
    (held (T d) S3 V : sProp 𝕄) = iprop((rLoc d ↦{fullShare} V r') ∗ (cLoc d ↦{fullShare} V c') ∗ oLoc d ↦{fullShare} V o') := by
  unfold held S3
  rw [SparseCore.bigSep_insert' (by decide), SparseCore.bigSep_insert' (by decide), bigSep_singleton]

/-- After the call: the count matrix counted, everything else as before. -/
def afterCall (V : Valuation τ sig (Elt F)) : Valuation τ sig (Elt F) :=
  Function.update V o' (counts (F := F) (V r' : S16384.Idx → BitVec 32) (V c' : S16384.Idx → BitVec 32) : S1024x1024.Idx → F .f32)

theorem call (V : Dev nD → Valuation τ sig (Elt F)) (hR : ∀ d, R d = V d r') (hC : ∀ d, C d = V d c') (hO : ∀ d, O₀ d = V d o')
    (κ : GSem nD τ sig → ℕ) (d : Dev nD) {Φ : PUnit → sProp 𝕄} :
    iprop((K (F := F)).ctx EH (P R C O₀) κ ∗ (K (F := F)).tcSt EH d 0 ∗ held (T d) (Pipeline.ucRefs τ sig) (V d)
        ∗ (((K (F := F)).tcSt EH d 1 ∗ held (T d) (Pipeline.ucRefs τ sig) (afterCall (V d))) -∗ Φ ⟨⟩))
      ⊢ wp frame (wpE ((K (F := F)).defs (D (F := F))) 𝒱 (T d) none) Set.univ ((K (F := F)).run d 0) Φ := by
  rw [held_sub_split (T d) S3_sub (V d), held_sub_split (T d) S3_sub (afterCall (V d)), held_S3, held_S3]
  rw [show afterCall (V d) r' = R d from (Function.update_of_ne (show r' ≠ o' by decide) _ _).trans (hR d).symm,
    show afterCall (V d) c' = C d from (Function.update_of_ne (show c' ≠ o' by decide) _ _).trans (hC d).symm,
    show afterCall (V d) o' = (counts (F := F) (R d) (C d) : S1024x1024.Idx → F .f32) from by rw [hR, hC]; exact Function.update_self _ _ _,
    ← hR, ← hC, ← hO,
    held_congr (T d) (S := Pipeline.ucRefs τ sig \ S3) (V := afterCall (V d)) (V' := V d) (fun b hb => Function.update_of_ne (fun e => (Finset.mem_sdiff.mp hb).2 (by rw [e]; decide)) _ _)]
  iintro ⟨#Hctx, Hst, ⟨Hops, Hrest⟩, Hk⟩
  ihave H := (deal R C O₀ d) $$ Hops
  icases H with ⟨Hkept, Hops⟩
  iapply ((K (F := F)).wp_run (D (F := F)) 𝒱 (EH := EH) (P := P R C O₀) κ d 0) $$ [Hst Hops Hkept Hrest Hk]
  isplitr; · iexact Hctx
  isplitl [Hst]; · iexact Hst
  isplitl [Hops]; · iexact Hops
  iintro ⟨Hst, Hdn⟩
  iapply Hk
  isplitl [Hst]; · iexact Hst
  isplitr [Hrest]
  · iapply (gather R C O₀ d); isplitl [Hkept] <;> iassumption
  · iexact Hrest

/-! ## The launch element of the ghost state -/

/-- No table is bound: the pipelines' configurations are the printed ones. -/
abbrev adm : (p : Fin 3) → (pcfgs (F := F) p).Adm := fun p => (cfgs p).toPCfg_adm

def u₀ : UU := (initOf (K (F := F)).hsCells (K (F := F)).hsToks, (initOf (Pipeline.cells cfgs cellOf_inj) (Pipeline.launchToks cfgs cellOf_inj), 1))

/-- The TensorCore calls' staging cells, fresh: what device `d`'s @main is handed besides its arrays. -/
abbrev G (d : Dev nD) : sProp 𝕄 :=
  iprop((bigSep Finset.univ fun p : Fin 3 => Pipeline.cellsGhost cfgs EP p d) ∗ bigSep Finset.univ fun p : Fin 3 => Pipeline.toksInit cfgs EP p d)

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P R C O₀).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb (ER (F := F)) (initOf (Pipeline.cells cfgs cellOf_inj) (Pipeline.launchToks cfgs cellOf_inj)) (1 : Counters)) $$ HR
  icases H with ⟨HP, -⟩
  ihave HP := (show (BI.own (((Emb.inl : Emb UP (UP × Counters)).trans (ER (F := F))) (initOf (Pipeline.cells cfgs cellOf_inj) (Pipeline.launchToks cfgs cellOf_inj))) : sProp 𝕄)
    ⊢ BI.own (EP (F := F) (initOf (Pipeline.cells cfgs cellOf_inj) (Pipeline.launchToks cfgs cellOf_inj))) from .rfl) $$ HP
  imod (Pipeline.fund_ghost cfgs (EP (F := F)) cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) R C O₀).x q thr) = bigSep Finset.univ fun _ => iprop(emp) from
    bigSep_congr fun _ _ => bigSep_univ_of_subsingleton (0 : Fin 1), nothing]
  iempintro

end Cert.Proof.OfKernelIdeal

end
-- ==== Proof.KernelIdealRegion.lean ====
/-
  A TensorCore call of @main, run from all of the TensorCore's arrays to all of them: the same for the three calls.
-/
module

public import proofs.«01_k».proof.Proof.KernelIdealCall
public import Idealize.ShloMosaic.Lib.Pipeline.Regions
public import Idealize.ShloMosaic.Lib.Pipeline.RegionArraysS
public import Idealize.ShloMosaic.Lib.SparseCore.Threads

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.ShloMosaic.StableHlo (held)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [∀ e, Nonempty (Elt F e)]
variable (R : (d : Dev nD) → Buf (Elt F) (rLoc d)) (C : (d : Dev nD) → Buf (Elt F) (cLoc d)) (O₀ : (d : Dev nD) → Buf (Elt F) (oLoc d))

/-- After the SparseCore call whatever the TensorCore has waited for lies low enough. -/
theorem below (d : Dev nD) (W : Waits sig (HIx 1)) : (K (F := F)).WBelow (T d) W (8 * SparseCore.Cfg.Blocks.fst (Q := 1) (N := 1) 1) := by
  rintro ⟨s, i⟩ -
  match i with
  | none => exact Nat.zero_le _
  | some q =>
    refine (SparseCore.Cfg.lev_some_le (K := K (F := F)) _ q).trans ?_
    show 8 * q.val + 7 ≤ 8 * 1
    omega

/-- It owes nothing any more. -/
theorem owes_none (d : Dev nD) : (K (F := F)).Otc d 1 = (0 : CellTallies nD τ sig (HIx 1)) := SparseCore.Cfg.Otc_end (K := K) d le_rfl

variable (pd : (p : Fin 3) → (c : Dev nD) → Dat τ (Elt F) (HIx 1) ℕ UU ℕ (Pipeline.pin (pcfgs (F := F)) adm p) c)

theorem cut (p : Fin 3) : Pipeline.LevelCut (pcfgs (F := F)) adm (none : HIx 1) (K (F := F)).L (K (F := F)).lev p (fun _ : Dev nD => 0) (fun _ => 0) where
  hι := fun c w s => by simp [SparseCore.Cfg.L]
  hιb := fun c w s => le_refl 0
  hD := fun c g i h => absurd h (lt_irrefl 0)

theorem region (p : Fin 3) (kit : Pipeline.PLaunchFacts (nD := nD) (τ := τ) (pcfgs (F := F)) p) (hK : (pcfgs (F := F) p).pre.K = 0)
    (hbody : ∀ c, Pipeline.BodyObligationLoose (pd p c) (defs₀ (F := F)) Variants.none none Set.univ)
    (howed : ∀ c t, (pd p c).owed t = 0) (hrec : ∀ c, (pd p c).recorded 0 = Set.univ)
    (hshare : ∀ c w, (pd p c).share w = fullShare)
    (hin : ∀ c, Pipeline.scopedRest (Pipeline.pin (pcfgs (F := F)) adm p).spec c ⊢ (pd p c).Φ 0)
    (hout : ∀ c, (pd p c).Φ (Fin.last (Pipeline.pin (pcfgs (F := F)) adm p).N) ⊢ Pipeline.scopedRest (Pipeline.pin (pcfgs (F := F)) adm p).spec c)
    (hS : Pipeline.arrRefs (pcfgs (F := F) p).spec ⊆ Pipeline.ucRefs τ sig)
    (W : Dev nD → Valuation τ sig (Elt F))
    (hW : ∀ c w, (pd p c).arrAt w 0 = W c (Proc.devRef .tc (Pipeline.arrRef (Pipeline.pin (pcfgs (F := F)) adm p).spec w)))
    (κ : GSem nD τ sig → ℕ) (d : Dev nD) {Q : PUnit → sProp 𝕄} :
    iprop((K (F := F)).ctx EH (P R C O₀) κ ∗ (K (F := F)).tcSt EH d 1 ∗ boundary (T d) ∗ held (T d) (Pipeline.ucRefs τ sig) (W d)
        ∗ Pipeline.cellsGhost cfgs EP p d ∗ Pipeline.toksInit cfgs EP p d
        ∗ (((K (F := F)).tcSt EH d 1 ∗ boundary (T d) ∗ held (T d) (Pipeline.ucRefs τ sig) (Pipeline.afterRegion (pd p d) (W d))) -∗ Q ⟨⟩))
      ⊢ wp frame (wpE ((K (F := F)).defs (D (F := F))) 𝒱 (T d) none) Set.univ (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (Pipeline.RegionSeg.wp (pcfgs (F := F)) adm pd none cellOf_inj EP defs₀ 𝒱₀ (K (F := F)).L (K (F := F)).lev
    (Pipeline.RegionSeg.ofHeldIn (pcfgs (F := F)) adm pd none defs₀ 𝒱₀ (K (F := F)).L (K (F := F)).lev p (fun _ => 0) (Pipeline.ucRefs τ sig)
      (fun _ => iprop(emp)) (fun _ => iprop(emp)) kit hK hbody howed hrec hshare (fun c => sep_elim_left.trans (hin c)) (fun c => (hout c).trans sep_emp_intro) (fun _ => 0) (cut p)
      (fun _ => iprop(emp)) W hW) d none (fun _ h => nomatch h) .ret Q)
  unfold SparseCore.Cfg.tcSt
  rw [owes_none]
  iintro ⟨#Hctx, ⟨⟨%W1, -, Ho⟩, Hst⟩, Hb, Hh, Hg, Ht, Hk⟩
  isplitr [Hb Hh Hg Ht Ho]
  · iintro ⟨Hb, Hpost⟩
    ihave H := (Pipeline.RegionSeg.ofHeldIn_post hS d) $$ Hpost
    icases H with ⟨Hh, ⟨%Wd, Ho⟩, -⟩
    sl_step
    iapply Hk
    isplitl [Ho Hst]
    · isplitl [Ho]
      · iexists Wd; isplitr; · ipureintro; exact below d Wd
        iexact Ho
      iexact Hst
    isplitl [Hb] <;> iassumption
  isplitl [Hb]; · iexact Hb
  isplitl [Hh Ho]
  · iapply (Pipeline.RegionSeg.ofHeldIn_pre hS d)
    isplitl [Hh]; · iexact Hh
    isplitl [Ho]; · iexists W1; iexact Ho
    isplitr <;> iempintro
  isplitr
  · iapply (SparseCore.Cfg.ctx_levAts κ); iexact Hctx
  isplitl [Hg] <;> iassumption

end Cert.Proof.OfKernelIdeal

end
-- ==== Proof.KernelIdealTopo.lean ====
/-
  The call that scores the columns: its body on the blocks its windows stage, and what it leaves behind.
-/
module

public import proofs.«01_k».proof.Proof.KernelIdealSetup
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.OfKernelIdeal.Topo

open Cert.KernelIdeal Cert.KernelIdeal.Gen

open Idealize.ShloMosaic
open Idealize.ShloMosaic.SparseCore.Cfg (HIx)
open Idealize.ShloMosaic.View Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

abbrev r_0 : Rect S1024x1024 := Rect.unit (s := S1024x1024) ![0, 0] S1024x1024.size inb_S1024x1024_S1024x1024_0_0
abbrev r_1 : Rect S1x1024x512 := Rect.unit (s := S1x1024x512) ![0, 0, 0] S1x1024x512.size inb_S1x1024x512_S1x1024x512_0_0_0
abbrev r_2 : Rect S512x256 := Rect.unit (s := S512x256) ![0, 0] S512x256.size inb_S512x256_S512x256_0_0
abbrev r_3 : Rect S1x256 := Rect.unit (s := S1x256) ![0, 0] S1x256.size inb_S1x256_S1x256_0_0
abbrev r_4 : Rect S1x256 := Rect.unit (s := S1x256) ![0, 0] S1x256.size inb_S1x256_S1x256_0_0
abbrev r_5 : Rect S1x1x1024 := Rect.unit (s := S1x1x1024) ![0, 0, 0] S1x1x1024.size inb_S1x1x1024_S1x1x1024_0_0_0

/-- What the body leaves in its output window, from the blocks it read. -/
def outv (x0 : Vec F S1024x1024 .f32) (x1 : Vec F S1x1024x512 .f32) (x2 : Vec F S512x256 .f32) (x3 : Vec F S1x256 .f32) (x4 : Vec F S1x256 .f32) : Vec F S1x1x1024 .f32 :=
  View.canon [⟨r_5, k1_pay1 (View.ld x1 r_1) (View.ld x0 r_0) (View.ld x2 r_2) (View.ld x3 r_3) (View.ld x4 r_4)⟩]

theorem cover (p : Vec F S1x1x1024 .f32) (y : S1x1x1024.Idx) : ∃ pc ∈ ([⟨r_5, p⟩] : List (View.Piece (Elt F) S1x1x1024 .f32)), y ∈ pc.1.set :=
  View.cover_of_tiled [⟨r_5, p⟩] S1x1x1024.size (by rfl) y

set_option maxHeartbeats 1000000 in
/-- The body, from blocks `x` in its input windows, leaves `outv` of them in its output window. -/
theorem sound_kernel (c : Dev nD) (E : Set ℕ) (i : grid1.Coords) (a0 : Memref sig .tc .vmem S1024x1024 .f32) (h0 : a0.IsWhole) (a1 : Memref sig .tc .vmem S1x1024x512 .f32) (h1 : a1.IsWhole) (a2 : Memref sig .tc .vmem S512x256 .f32) (h2 : a2.IsWhole) (a3 : Memref sig .tc .vmem S1x256 .f32) (h3 : a3.IsWhole) (a4 : Memref sig .tc .vmem S1x256 .f32) (h4 : a4.IsWhole) (a5 : Memref sig .tc .vmem S1x1x1024 .f32) (h5 : a5.IsWhole)
    (x0 : Vec F S1024x1024 .f32) (x1 : Vec F S1x1024x512 .f32) (x2 : Vec F S512x256 .f32) (x3 : Vec F S1x256 .f32) (x4 : Vec F S1x256 .f32) (Q : PUnit → sProp 𝕄) :
    iprop(owns c.tc a0 fullShare x0 ∗ owns c.tc a1 fullShare x1 ∗ owns c.tc a2 fullShare x2 ∗ owns c.tc a3 fullShare x3 ∗ owns c.tc a4 fullShare x4 ∗ (∃ d, owns c.tc a5 fullShare d)
        ∗ (iprop(owns c.tc a0 fullShare x0 ∗ owns c.tc a1 fullShare x1 ∗ owns c.tc a2 fullShare x2 ∗ owns c.tc a3 fullShare x3 ∗ owns c.tc a4 fullShare x4 ∗ owns c.tc a5 fullShare (outv x0 x1 x2 x3 x4)) -∗ Q ⟨⟩))
      ⊢ wp frame (wpE (defs₀ (F := F)) Variants.none c.tc none) E (cc1__topo_body i a0 h0 a1 h1 a2 h2 a3 h3 a4 h4 a5 h5) Q := by
  simp only [cc1__topo_body_eq_skeleton]; unfold cc1__topo_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The call's proof data: its arrays as it finds them, each input window at its block, the output window at `outv`,
    nothing kept but the scoped buffers it does not stage, nothing owed. -/
def dat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outv (iblk V c 0 t) (iblk V c 1 t) (iblk V c 2 t) (iblk V c 3 t) (iblk V c 4 t)
  Φ _ := Pipeline.scopedRest spec1 c
  q _ := fullShare
  owed _ := 0

theorem A_eq (c : Dev nD) (w : Fin cfg1.W) : (dat V c).A w = V c (Proc.devRef .tc (Pipeline.arrRef spec1 w)) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outv (iblk V c 0 t) (iblk V c 1 t) (iblk V c 2 t) (iblk V c 3 t) (iblk V c 4 t) := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat V c).Φ t.castSucc ∗ (dat V c).owesAt none t.castSucc
    ∗ (∃ d, owns c.tc (st1_0 t) fullShare ((dat V c).before 0 t d))
    ∗ (∃ d, owns c.tc (st1_1 t) fullShare ((dat V c).before 1 t d))
    ∗ (∃ d, owns c.tc (st1_2 t) fullShare ((dat V c).before 2 t d))
    ∗ (∃ d, owns c.tc (st1_3 t) fullShare ((dat V c).before 3 t d))
    ∗ (∃ d, owns c.tc (st1_4 t) fullShare ((dat V c).before 4 t d))
    ∗ (∃ d, owns c.tc (st1_5 t) fullShare ((dat V c).before 5 t d)))

/-- and what it returns. -/
def bodyPost (c : Dev nD) (t : Fin cfg1.N) : sProp 𝕄 :=
  iprop((dat V c).Φ t.succ ∗ (dat V c).owesAt none t.succ
    ∗ owns c.tc (st1_0 t) fullShare ((dat V c).after 0 t)
    ∗ owns c.tc (st1_1 t) fullShare ((dat V c).after 1 t)
    ∗ owns c.tc (st1_2 t) fullShare ((dat V c).after 2 t)
    ∗ owns c.tc (st1_3 t) fullShare ((dat V c).after 3 t)
    ∗ owns c.tc (st1_4 t) fullShare ((dat V c).after 4 t)
    ∗ owns c.tc (st1_5 t) fullShare ((dat V c).after 5 t))

theorem sound_body (c : Dev nD) (t : Fin cfg1.N) :
    bodyPre V c t ⊢ wp frame (wpE (defs₀ (F := F)) Variants.none c.tc none) Set.univ (bodyAt1 t) (fun _ => bodyPost V c t) := by
  unfold bodyPre bodyPost bodyAt1
  simp only [before_0, before_1, before_2, before_3, before_4]
  rw [show (dat V c).Φ t.succ = (dat V c).Φ t.castSucc from rfl, show (dat V c).owesAt none t.succ = (dat V c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) : defs₀ (F := F) .tc cfg1.body (cfg1.bodyArgs t (cfg1.slots t)) = bodyAt1 t := by
  rfl

/-- The body meets its obligation at every point. -/
theorem body_obligation (c : Dev nD) : BodyObligation (dat V c) (defs₀ (F := F)) Variants.none none Set.univ := fun t => by
  rw [bigSep_W1, bigSep_W1, defs₀_row]
  exact triple_restated (sound_body V c t) rfl .rfl fun _ => .rfl

end Cert.Proof.OfKernelIdeal.Topo

end
-- ==== Proof.KernelIdealColmask.lean ====
/-
  The call that marks the best columns: its body on the blocks its windows stage, and what it leaves behind.
-/
module

public import proofs.«01_k».proof.Proof.KernelIdealSetup
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.OfKernelIdeal.Colmask

open Cert.KernelIdeal Cert.KernelIdeal.Gen

open Idealize.ShloMosaic
open Idealize.ShloMosaic.SparseCore.Cfg (HIx)
open Idealize.ShloMosaic.View Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

abbrev r_0 : Rect S1x1x1024 := Rect.unit (s := S1x1x1024) ![0, 0, 0] S1x1x1024.size inb_S1x1x1024_S1x1x1024_0_0_0
abbrev r_1 : Rect S1x1024x1 := Rect.unit (s := S1x1024x1) ![0, 0, 0] S1x1024x1.size inb_S1x1024x1_S1x1024x1_0_0_0
abbrev r_2 : Rect S1x1x1024 := Rect.unit (s := S1x1x1024) ![0, 0, 0] S1x1x1024.size inb_S1x1x1024_S1x1x1024_0_0_0

/-- What the body leaves in its output window, from the blocks it read. -/
def outv (x0 : Vec F S1x1x1024 .f32) (x1 : Vec F S1x1024x1 .f32) : Vec F S1x1x1024 .f32 :=
  View.canon [⟨r_2, k2_pay1 (View.ld x0 r_0) (View.ld x1 r_1)⟩]

theorem cover (p : Vec F S1x1x1024 .f32) (y : S1x1x1024.Idx) : ∃ pc ∈ ([⟨r_2, p⟩] : List (View.Piece (Elt F) S1x1x1024 .f32)), y ∈ pc.1.set :=
  View.cover_of_tiled [⟨r_2, p⟩] S1x1x1024.size (by rfl) y

set_option maxHeartbeats 1000000 in
/-- The body, from blocks `x` in its input windows, leaves `outv` of them in its output window. -/
theorem sound_kernel (c : Dev nD) (E : Set ℕ) (i : grid2.Coords) (a0 : Memref sig .tc .vmem S1x1x1024 .f32) (h0 : a0.IsWhole) (a1 : Memref sig .tc .vmem S1x1024x1 .f32) (h1 : a1.IsWhole) (a2 : Memref sig .tc .vmem S1x1x1024 .f32) (h2 : a2.IsWhole)
    (x0 : Vec F S1x1x1024 .f32) (x1 : Vec F S1x1024x1 .f32) (Q : PUnit → sProp 𝕄) :
    iprop(owns c.tc a0 fullShare x0 ∗ owns c.tc a1 fullShare x1 ∗ (∃ d, owns c.tc a2 fullShare d)
        ∗ (iprop(owns c.tc a0 fullShare x0 ∗ owns c.tc a1 fullShare x1 ∗ owns c.tc a2 fullShare (outv x0 x1)) -∗ Q ⟨⟩))
      ⊢ wp frame (wpE (defs₀ (F := F)) Variants.none c.tc none) E (cc2__colmask_body i a0 h0 a1 h1 a2 h2) Q := by
  simp only [cc2__colmask_body_eq_skeleton]; unfold cc2__colmask_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The call's proof data: its arrays as it finds them, each input window at its block, the output window at `outv`,
    nothing kept but the scoped buffers it does not stage, nothing owed. -/
def dat (c : Dev nD) : Dat τ (Elt F) (HIx 1) ℕ UU ℕ cfg2 c where
  A w := V c (Proc.devRef .tc (Pipeline.arrRef spec2 w))
  after w t := match w with
    | ⟨0, _⟩ => iblk V c 0 t
    | ⟨1, _⟩ => iblk V c 1 t
    | ⟨2, _⟩ => outv (iblk V c 0 t) (iblk V c 1 t)
  Φ _ := Pipeline.scopedRest spec2 c
  q _ := fullShare
  owed _ := 0

theorem A_eq (c : Dev nD) (w : Fin cfg2.W) : (dat V c).A w = V c (Proc.devRef .tc (Pipeline.arrRef spec2 w)) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = outv (iblk V c 0 t) (iblk V c 1 t) := by dsimp only [dat]
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg2.N) : sProp 𝕄 :=
  iprop((dat V c).Φ t.castSucc ∗ (dat V c).owesAt none t.castSucc
    ∗ (∃ d, owns c.tc (st2_0 t) fullShare ((dat V c).before 0 t d))
    ∗ (∃ d, owns c.tc (st2_1 t) fullShare ((dat V c).before 1 t d))
    ∗ (∃ d, owns c.tc (st2_2 t) fullShare ((dat V c).before 2 t d)))

/-- and what it returns. -/
def bodyPost (c : Dev nD) (t : Fin cfg2.N) : sProp 𝕄 :=
  iprop((dat V c).Φ t.succ ∗ (dat V c).owesAt none t.succ
    ∗ owns c.tc (st2_0 t) fullShare ((dat V c).after 0 t)
    ∗ owns c.tc (st2_1 t) fullShare ((dat V c).after 1 t)
    ∗ owns c.tc (st2_2 t) fullShare ((dat V c).after 2 t))

theorem sound_body (c : Dev nD) (t : Fin cfg2.N) :
    bodyPre V c t ⊢ wp frame (wpE (defs₀ (F := F)) Variants.none c.tc none) Set.univ (bodyAt2 t) (fun _ => bodyPost V c t) := by
  unfold bodyPre bodyPost bodyAt2
  simp only [before_0, before_1]
  rw [show (dat V c).Φ t.succ = (dat V c).Φ t.castSucc from rfl, show (dat V c).owesAt none t.succ = (dat V c).owesAt none t.castSucc from rfl,
    after_0, after_1, after_2]
  iintro ⟨HΦ, Ho, ⟨%d0, H0⟩, ⟨%d1, H1⟩, ⟨%d2, H2⟩⟩
  iapply (sound_kernel c Set.univ (grid2.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg2.N) : defs₀ (F := F) .tc cfg2.body (cfg2.bodyArgs t (cfg2.slots t)) = bodyAt2 t := by
  rfl

/-- The body meets its obligation at every point. -/
theorem body_obligation (c : Dev nD) : BodyObligation (dat V c) (defs₀ (F := F)) Variants.none none Set.univ := fun t => by
  rw [bigSep_W2, bigSep_W2, defs₀_row]
  exact triple_restated (sound_body V c t) rfl .rfl fun _ => .rfl

end Cert.Proof.OfKernelIdeal.Colmask

end
-- ==== Proof.KernelIdealAttn.lean ====
/-
  The attention call: its body on the blocks its windows stage, and what it leaves behind.

  Its grid is batch by row block. The first row block of a batch fills two scratch buffers with the keys and the values of
  the whole batch, and the other row blocks read them there.
-/
module

public import proofs.«01_k».proof.Proof.KernelIdealSetup
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.OfKernelIdeal.Attn

open Cert.KernelIdeal Cert.KernelIdeal.Gen

open Idealize.ShloMosaic
open Idealize.ShloMosaic.SparseCore.Cfg (HIx)
open Idealize.ShloMosaic.View Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- Window `w`'s block at point `t`, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

abbrev r_0 : Rect S1x1024x512 := Rect.unit (s := S1x1024x512) ![0, 0, 0] S1x1024x512.size inb_S1x1024x512_S1x1024x512_0_0_0
abbrev r_1 : Rect S128x1024 := Rect.unit (s := S128x1024) ![0, 0] S128x1024.size inb_S128x1024_S128x1024_0_0
abbrev r_2 : Rect S1x1x1024 := Rect.unit (s := S1x1x1024) ![0, 0, 0] S1x1x1024.size inb_S1x1x1024_S1x1x1024_0_0_0
abbrev r_3 : Rect S512x512 := Rect.unit (s := S512x512) ![0, 0] S512x512.size inb_S512x512_S512x512_0_0
abbrev r_4 : Rect S1x512 := Rect.unit (s := S1x512) ![0, 0] S1x512.size inb_S1x512_S1x512_0_0
abbrev r_5 : Rect S512x512 := Rect.unit (s := S512x512) ![0, 0] S512x512.size inb_S512x512_S512x512_0_0
abbrev r_6 : Rect S1x512 := Rect.unit (s := S1x512) ![0, 0] S1x512.size inb_S1x512_S1x512_0_0
abbrev r_7 : Rect S512x512 := Rect.unit (s := S512x512) ![0, 0] S512x512.size inb_S512x512_S512x512_0_0
abbrev r_8 : Rect S1x512 := Rect.unit (s := S1x512) ![0, 0] S1x512.size inb_S1x512_S1x512_0_0
abbrev r_9 : Rect S512x512 := Rect.unit (s := S512x512) ![0, 0] S512x512.size inb_S512x512_S512x512_0_0
abbrev r_10 : Rect S1x512 := Rect.unit (s := S1x512) ![0, 0] S1x512.size inb_S1x512_S1x512_0_0
abbrev r_11 : Rect S1x128x512 := Rect.unit (s := S1x128x512) ![0, 0, 0] S1x128x512.size inb_S1x128x512_S1x128x512_0_0_0
abbrev r_12 : Rect S1x8x128x1024 := Rect.unit (s := S1x8x128x1024) ![0, 0, 0, 0] S1x8x128x1024.size inb_S1x8x128x1024_S1x8x128x1024_0_0_0_0
abbrev r_s : Rect S1024x512 := Rect.unit (s := S1024x512) ![0, 0] S1024x512.size inb_S1024x512_S1024x512_0_0
abbrev c_0 : Rect S1024x512 := Rect.unit (s := S1024x512) ![0, 0] S1024x64.size inb_S1024x512_S1024x64_0_0
abbrev c_64 : Rect S1024x512 := Rect.unit (s := S1024x512) ![0, 64] S1024x64.size inb_S1024x512_S1024x64_0_64
abbrev c_128 : Rect S1024x512 := Rect.unit (s := S1024x512) ![0, 128] S1024x64.size inb_S1024x512_S1024x64_0_128
abbrev c_192 : Rect S1024x512 := Rect.unit (s := S1024x512) ![0, 192] S1024x64.size inb_S1024x512_S1024x64_0_192
abbrev c_256 : Rect S1024x512 := Rect.unit (s := S1024x512) ![0, 256] S1024x64.size inb_S1024x512_S1024x64_0_256
abbrev c_320 : Rect S1024x512 := Rect.unit (s := S1024x512) ![0, 320] S1024x64.size inb_S1024x512_S1024x64_0_320
abbrev c_384 : Rect S1024x512 := Rect.unit (s := S1024x512) ![0, 384] S1024x64.size inb_S1024x512_S1024x64_0_384
abbrev c_448 : Rect S1024x512 := Rect.unit (s := S1024x512) ![0, 448] S1024x64.size inb_S1024x512_S1024x64_0_448
/-- The rows of a batch the point `i` attends from. -/
abbrev r_q (i : grid3.Coords) : Rect S1x1024x512 := Rect.unit (s := S1x1024x512) (k3_off1 i) S1x128x512.size (k3_off1_inb i)

/-- The keys of a batch, -/
def keys (x0 : Vec F S1x1024x512 .f32) (x5 : Vec F S512x512 .f32) (x6 : Vec F S1x512 .f32) : Vec F S1024x512 .f32 :=
  View.canon [⟨r_s, k3_pay4 (View.ld x0 r_0) (View.ld x5 r_5) (View.ld x6 r_6)⟩]
/-- and its values. -/
def vals (x0 : Vec F S1x1024x512 .f32) (x7 : Vec F S512x512 .f32) (x8 : Vec F S1x512 .f32) : Vec F S1024x512 .f32 :=
  View.canon [⟨r_s, k3_pay5 (View.ld x0 r_0) (View.ld x7 r_7) (View.ld x8 r_8)⟩]

/-- The queries of the point's rows, -/
abbrev qs (i : grid3.Coords) (x0 : Vec F S1x1024x512 .f32) (x3 : Vec F S512x512 .f32) (x4 : Vec F S1x512 .f32) : FVec F S128x512 .f32 :=
  k3_pay6 (View.ld x0 (r_q i)) (View.ld x3 r_3) (View.ld x4 r_4)
/-- their mask, -/
abbrev ms (x1 : Vec F S128x1024 .f32) (x2 : Vec F S1x1x1024 .f32) : FVec F S128x1024 .f32 := k3_pay7 (View.ld x1 r_1) (View.ld x2 r_2)

/-- what they attend to, from the batch's keys and values, -/
def outv (i : grid3.Coords) (x0 : Vec F S1x1024x512 .f32) (x1 : Vec F S128x1024 .f32) (x2 : Vec F S1x1x1024 .f32) (x3 : Vec F S512x512 .f32) (x4 : Vec F S1x512 .f32)
    (x9 : Vec F S512x512 .f32) (x10 : Vec F S1x512 .f32) (kk vv : Vec F S1024x512 .f32) : Vec F S1x128x512 .f32 :=
  View.canon [⟨r_11, k3_pay1 (ms x1 x2)
    (k3_pay9 (ms x1 x2) (View.ld vv c_0) (k3_pay8 (View.ld x0 (r_q i)) (View.ld x3 r_3) (View.ld x4 r_4) (View.ld kk c_0)))
    (k3_pay10 (qs i x0 x3 x4) (ms x1 x2) (View.ld kk c_64) (View.ld vv c_64))
    (k3_pay12 (ms x1 x2) (k3_pay11 (qs i x0 x3 x4)) (View.ld kk c_128) (View.ld vv c_128))
    (k3_pay13 (qs i x0 x3 x4) (ms x1 x2) (View.ld kk c_192) (View.ld vv c_192))
    (k3_pay14 (qs i x0 x3 x4) (ms x1 x2) (View.ld kk c_256) (View.ld vv c_256))
    (k3_pay20 (k3_pay16 (qs i x0 x3 x4) (View.ld kk c_320)) (k3_pay18 (qs i x0 x3 x4) (ms x1 x2) (View.ld kk c_320)) (k3_pay19 (qs i x0 x3 x4) (ms x1 x2) (View.ld kk c_320) (View.ld vv c_320)))
    (k3_pay21 (qs i x0 x3 x4) (ms x1 x2) (View.ld kk c_384) (View.ld vv c_384))
    (View.ld vv c_448) (k3_pay22 (qs i x0 x3 x4) (View.ld kk c_448)) (k3_pay23 (qs i x0 x3 x4) (View.ld kk c_448))
    (View.ld x9 r_9) (View.ld x10 r_10)⟩]
/-- and the mask, once for each head. -/
def maskv (x1 : Vec F S128x1024 .f32) (x2 : Vec F S1x1x1024 .f32) : Vec F S1x8x128x1024 .f32 :=
  View.canon [⟨r_12, k3_pay2 (ms x1 x2)⟩]

theorem cover_out (p : Vec F S1x128x512 .f32) (y : S1x128x512.Idx) : ∃ pc ∈ ([⟨r_11, p⟩] : List (View.Piece (Elt F) S1x128x512 .f32)), y ∈ pc.1.set :=
  View.cover_of_tiled [⟨r_11, p⟩] S1x128x512.size (by rfl) y
theorem cover_mask (p : Vec F S1x8x128x1024 .f32) (y : S1x8x128x1024.Idx) : ∃ pc ∈ ([⟨r_12, p⟩] : List (View.Piece (Elt F) S1x8x128x1024 .f32)), y ∈ pc.1.set :=
  View.cover_of_tiled [⟨r_12, p⟩] S1x8x128x1024.size (by rfl) y
theorem cover_scratch (p : Vec F S1024x512 .f32) (y : S1024x512.Idx) : ∃ pc ∈ ([⟨r_s, p⟩] : List (View.Piece (Elt F) S1024x512 .f32)), y ∈ pc.1.set :=
  View.cover_of_tiled [⟨r_s, p⟩] S1024x512.size (by rfl) y

/-- The point `i` is the first row block of its batch: it fills the scratch buffers. -/
abbrev first (i : grid3.Coords) : Prop := (Scalar.cmpi .ne (Scalar.extui (Scalar.cmpi .eq (BitVec.ofNat 32 (i 1).val) 0#32)) 0#32) = 1#1
theorem first_iff : ∀ t : Fin cfg3.N, first (grid3.coords t) ↔ t.val % 8 = 0 :=
  (fun t => by
    have ht : t.val < 32 := Nat.lt_of_lt_of_eq t.isLt N_3
    have e0 : (grid3.coords t 0).val = t.val / 8 % 4 := Pipeline.Grid.coords_val t 0 (by decide) rfl
    have e1 : (grid3.coords t 1).val = t.val / 1 % 8 := Pipeline.Grid.coords_val t 1 (by decide) rfl
    simp only [first, e0, e1]
    word_cmp
   : ∀ t : Fin grid3.N, first (grid3.coords t) ↔ t.val % 8 = 0)

set_option maxHeartbeats 4000000 in
/-- At any other row block the body reads the keys and the values it finds in the scratch buffers. -/
theorem sound_next (c : Dev nD) (E : Set ℕ) (i : grid3.Coords) (a0 : Memref sig .tc .vmem S1x1024x512 .f32) (h0 : a0.IsWhole) (a1 : Memref sig .tc .vmem S128x1024 .f32) (h1 : a1.IsWhole) (a2 : Memref sig .tc .vmem S1x1x1024 .f32) (h2 : a2.IsWhole) (a3 : Memref sig .tc .vmem S512x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S1x512 .f32) (h8 : a8.IsWhole) (a9 : Memref sig .tc .vmem S512x512 .f32) (h9 : a9.IsWhole) (a10 : Memref sig .tc .vmem S1x512 .f32) (h10 : a10.IsWhole) (a11 : Memref sig .tc .vmem S1x128x512 .f32) (h11 : a11.IsWhole) (a12 : Memref sig .tc .vmem S1x8x128x1024 .f32) (h12 : a12.IsWhole) (a13 : Memref sig .tc .vmem S1024x512 .f32) (h13 : a13.IsWhole) (a14 : Memref sig .tc .vmem S1024x512 .f32) (h14 : a14.IsWhole)
    (hc : ¬ first i) (x0 : Vec F S1x1024x512 .f32) (x1 : Vec F S128x1024 .f32) (x2 : Vec F S1x1x1024 .f32) (x3 : Vec F S512x512 .f32) (x4 : Vec F S1x512 .f32) (x5 : Vec F S512x512 .f32) (x6 : Vec F S1x512 .f32) (x7 : Vec F S512x512 .f32) (x8 : Vec F S1x512 .f32) (x9 : Vec F S512x512 .f32) (x10 : Vec F S1x512 .f32) (kk vv : Vec F S1024x512 .f32) (Q : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ (∃ d, owns c.tc a11 fullShare d) ∗ (∃ d, owns c.tc a12 fullShare d) ∗ owns c.tc a13 fullShare kk ∗ owns c.tc a14 fullShare vv
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare (outv i x0 x1 x2 x3 x4 x9 x10 kk vv) ∗ owns c.tc a12 fullShare (maskv x1 x2)
            ∗ owns c.tc a13 fullShare kk ∗ owns c.tc a14 fullShare vv) -∗ Q ⟨⟩))
      ⊢ wp frame (wpE (defs₀ (F := F)) Variants.none c.tc none) E (cc3__attn_body i a0 h0 a1 h1 a2 h2 a3 h3 a4 h4 a5 h5 a6 h6 a7 h7 a8 h8 a9 h9 a10 h10 a11 h11 a12 h12 a13 h13 a14 h14) Q := by
  simp only [cc3__attn_body_eq_skeleton]; unfold cc3__attn_body_skel
  simp only [k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hs0, HS0⟩, ⟨%fs1, %hs1, HS1⟩, Hk⟩
  subst hf0 hf1 hf2 hf3 hf4 hf5 hf6 hf7 hf8 hf9 hf10 hs0 hs1
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr
    swap; · iexact H11
    ipureintro; exact View.read_writes_eq_canon _ _ _ (cover_out _)
  isplitl [H12]
  · iexists _; isplitr
    swap; · iexact H12
    ipureintro; exact View.read_writes_eq_canon _ _ _ (cover_mask _)
  isplitl [HS0]
  · iexists _; isplitr
    swap; · iexact HS0
    ipureintro; first | rfl | assumption
  iexists _; isplitr
  swap; · iexact HS1
  ipureintro; first | rfl | assumption

/-- What the start of the body has in hand. -/
def opened (i : grid3.Coords) (x0 : Vec F S1x1024x512 .f32) (x1 : Vec F S128x1024 .f32) (x2 : Vec F S1x1x1024 .f32) (x3 : Vec F S512x512 .f32) (x4 : Vec F S1x512 .f32)
    (y w : Vec F S1024x64 .f32) : Σ' (_ : FVec F S128x512 .f32) (_ : FVec F S128x1024 .f32) (_ : Vec F S1024x64 .f32), FVec F S128x1024 .f32 :=
  ⟨qs i x0 x3 x4, ms x1 x2, w, k3_pay8 (View.ld x0 (r_q i)) (View.ld x3 r_3) (View.ld x4 r_4) y⟩

theorem opened_congr (i : grid3.Coords) (x0 : Vec F S1x1024x512 .f32) (x1 : Vec F S128x1024 .f32) (x2 : Vec F S1x1x1024 .f32) (x3 : Vec F S512x512 .f32) (x4 : Vec F S1x512 .f32)
    {y w y' w' : Vec F S1024x64 .f32} (hy : y = y') (hw : w = w') :
    (⟨qs i x0 x3 x4, ms x1 x2, w, k3_pay8 (View.ld x0 (r_q i)) (View.ld x3 r_3) (View.ld x4 r_4) y⟩ : Σ' (_ : FVec F S128x512 .f32) (_ : FVec F S128x1024 .f32) (_ : Vec F S1024x64 .f32), FVec F S128x1024 .f32) = opened i x0 x1 x2 x3 x4 y' w' := by
  subst hy hw; rfl
set_option maxHeartbeats 1000000 in
/-- The start of the body at the first row block of a batch: it fills the scratch buffers and reads them once. -/
theorem start_first (c : Dev nD) (E : Set ℕ) (i : grid3.Coords) (a0 : Memref sig .tc .vmem S1x1024x512 .f32) (h0 : a0.IsWhole) (a1 : Memref sig .tc .vmem S128x1024 .f32) (h1 : a1.IsWhole) (a2 : Memref sig .tc .vmem S1x1x1024 .f32) (h2 : a2.IsWhole) (a3 : Memref sig .tc .vmem S512x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S1x512 .f32) (h8 : a8.IsWhole) (a9 : Memref sig .tc .vmem S512x512 .f32) (h9 : a9.IsWhole) (a10 : Memref sig .tc .vmem S1x512 .f32) (h10 : a10.IsWhole) (a11 : Memref sig .tc .vmem S1x128x512 .f32) (h11 : a11.IsWhole) (a12 : Memref sig .tc .vmem S1x8x128x1024 .f32) (h12 : a12.IsWhole) (a13 : Memref sig .tc .vmem S1024x512 .f32) (h13 : a13.IsWhole) (a14 : Memref sig .tc .vmem S1024x512 .f32) (h14 : a14.IsWhole)
    (hc : first i) (x0 : Vec F S1x1024x512 .f32) (x1 : Vec F S128x1024 .f32) (x2 : Vec F S1x1x1024 .f32) (x3 : Vec F S512x512 .f32) (x4 : Vec F S1x512 .f32) (x5 : Vec F S512x512 .f32) (x6 : Vec F S1x512 .f32) (x7 : Vec F S512x512 .f32) (x8 : Vec F S1x512 .f32) (Q : _ → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ (∃ d, owns c.tc a13 fullShare d) ∗ (∃ d, owns c.tc a14 fullShare d)
        ∗ (∀ v, iprop(⌜v = opened i x0 x1 x2 x3 x4 (View.ld (keys x0 x5 x6) c_0) (View.ld (vals x0 x7 x8) c_0)⌝ ∗ owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8
            ∗ owns c.tc a13 fullShare (keys x0 x5 x6) ∗ owns c.tc a14 fullShare (vals x0 x7 x8)) -∗ Q v))
      ⊢ wp frame (wpE (defs₀ (F := F)) Variants.none c.tc none) E (k3_part1 i a0 h0 a1 h1 a2 h2 a3 h3 a4 h4 a5 h5 a6 h6 a7 h7 a8 h8 a9 h9 a10 h10 a11 h11 a12 h12 a13 h13 a14 h14) Q := by
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
  subst hf0 hf1 hf2 hf3 hf4 hf5 hf6 hf7 hf8
  sl_exec (disch := first | sl_exact hc)
  sl_step
  iapply Hk
  isplitr
  · ipureintro
    refine opened_congr i _ _ _ _ _ ?_ ?_
    · exact (View.readAt_eq_ld _ _ _).trans (congrArg (fun z => View.ld z c_0) (View.read_writes_eq_canon _ _ _ (cover_scratch _)))
    · exact (View.readAt_eq_ld _ _ _).trans (congrArg (fun z => View.ld z c_0) (View.read_writes_eq_canon _ _ _ (cover_scratch _)))
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HS0]
  · iexists _; isplitr
    swap; · iexact HS0
    ipureintro; exact View.read_writes_eq_canon _ _ _ (cover_scratch _)
  iexists _; isplitr
  swap; · iexact HS1
  ipureintro; exact View.read_writes_eq_canon _ _ _ (cover_scratch _)

set_option maxHeartbeats 4000000 in
/-- At the first row block of a batch the body leaves the batch's keys and values in the scratch buffers, whatever they held. -/
theorem sound_first (c : Dev nD) (E : Set ℕ) (i : grid3.Coords) (a0 : Memref sig .tc .vmem S1x1024x512 .f32) (h0 : a0.IsWhole) (a1 : Memref sig .tc .vmem S128x1024 .f32) (h1 : a1.IsWhole) (a2 : Memref sig .tc .vmem S1x1x1024 .f32) (h2 : a2.IsWhole) (a3 : Memref sig .tc .vmem S512x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S1x512 .f32) (h8 : a8.IsWhole) (a9 : Memref sig .tc .vmem S512x512 .f32) (h9 : a9.IsWhole) (a10 : Memref sig .tc .vmem S1x512 .f32) (h10 : a10.IsWhole) (a11 : Memref sig .tc .vmem S1x128x512 .f32) (h11 : a11.IsWhole) (a12 : Memref sig .tc .vmem S1x8x128x1024 .f32) (h12 : a12.IsWhole) (a13 : Memref sig .tc .vmem S1024x512 .f32) (h13 : a13.IsWhole) (a14 : Memref sig .tc .vmem S1024x512 .f32) (h14 : a14.IsWhole)
    (hc : first i) (x0 : Vec F S1x1024x512 .f32) (x1 : Vec F S128x1024 .f32) (x2 : Vec F S1x1x1024 .f32) (x3 : Vec F S512x512 .f32) (x4 : Vec F S1x512 .f32) (x5 : Vec F S512x512 .f32) (x6 : Vec F S1x512 .f32) (x7 : Vec F S512x512 .f32) (x8 : Vec F S1x512 .f32) (x9 : Vec F S512x512 .f32) (x10 : Vec F S1x512 .f32) (Q : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ (∃ d, owns c.tc a11 fullShare d) ∗ (∃ d, owns c.tc a12 fullShare d) ∗ (∃ d, owns c.tc a13 fullShare d) ∗ (∃ d, owns c.tc a14 fullShare d)
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare (outv i x0 x1 x2 x3 x4 x9 x10 (keys x0 x5 x6) (vals x0 x7 x8)) ∗ owns c.tc a12 fullShare (maskv x1 x2)
            ∗ owns c.tc a13 fullShare (keys x0 x5 x6) ∗ owns c.tc a14 fullShare (vals x0 x7 x8)) -∗ Q ⟨⟩))
      ⊢ wp frame (wpE (defs₀ (F := F)) Variants.none c.tc none) E (cc3__attn_body i a0 h0 a1 h1 a2 h2 a3 h3 a4 h4 a5 h5 a6 h6 a7 h7 a8 h8 a9 h9 a10 h10 a11 h11 a12 h12 a13 h13 a14 h14) Q := by
  simp only [cc3__attn_body_eq_skeleton]; unfold cc3__attn_body_skel
  rw [wp_bind_eq]
  iintro ⟨H0, H1, H2, H3, H4, H5, H6, H7, H8, H9, H10, H11, H12, HS0, HS1, Hk⟩
  iapply (start_first c E i a0 h0 a1 h1 a2 h2 a3 h3 a4 h4 a5 h5 a6 h6 a7 h7 a8 h8 a9 h9 a10 h10 a11 h11 a12 h12 a13 h13 a14 h14 hc x0 x1 x2 x3 x4 x5 x6 x7 x8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro %v ⟨%hv, H0, H1, H2, H3, H4, H5, H6, H7, H8, HS0, HS1⟩
  subst hv
  simp only [k3_part2_eq_skeleton, k3_part3_eq_skeleton, k3_part4_eq_skeleton, k3_part5_eq_skeleton]
  generalize keys x0 x5 x6 = kk
  generalize vals x0 x7 x8 = vv
  unfold owns opened
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%d11, %f11, -, H11⟩
  icases H12 with ⟨%d12, %f12, -, H12⟩
  icases HS0 with ⟨%fs0, %hs0, HS0⟩
  icases HS1 with ⟨%fs1, %hs1, HS1⟩
  subst hf0 hf1 hf2 hf3 hf4 hf5 hf6 hf7 hf8 hf9 hf10 hs0 hs1
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr
    swap; · iexact H11
    ipureintro; exact View.read_writes_eq_canon _ _ _ (cover_out _)
  isplitl [H12]
  · iexists _; isplitr
    swap; · iexact H12
    ipureintro; exact View.read_writes_eq_canon _ _ _ (cover_mask _)
  isplitl [HS0]
  · iexists _; isplitr
    swap; · iexact HS0
    ipureintro; first | rfl | assumption
  iexists _; isplitr
  swap; · iexact HS1
  ipureintro; first | rfl | assumption

/-- The other calls' staging buffers, untouched here. -/
def others (c : Dev nD) : sProp 𝕄 :=
  iprop((∃ f : Buf (Elt F) (c.tc.loc cc1_stg0_0), (c.tc.loc cc1_stg0_0) ↦{fullShare} f) ∗ (∃ f : Buf (Elt F) (c.tc.loc cc1_stg1_0), (c.tc.loc cc1_stg1_0) ↦{fullShare} f) ∗ (∃ f : Buf (Elt F) (c.tc.loc cc1_stg1_1), (c.tc.loc cc1_stg1_1) ↦{fullShare} f) ∗ (∃ f : Buf (Elt F) (c.tc.loc cc1_stg2_0), (c.tc.loc cc1_stg2_0) ↦{fullShare} f) ∗ (∃ f : Buf (Elt F) (c.tc.loc cc1_stg3_0), (c.tc.loc cc1_stg3_0) ↦{fullShare} f) ∗ (∃ f : Buf (Elt F) (c.tc.loc cc1_stg4_0), (c.tc.loc cc1_stg4_0) ↦{fullShare} f) ∗ (∃ f : Buf (Elt F) (c.tc.loc cc1_stg5_0), (c.tc.loc cc1_stg5_0) ↦{fullShare} f) ∗ (∃ f : Buf (Elt F) (c.tc.loc cc1_stg5_1), (c.tc.loc cc1_stg5_1) ↦{fullShare} f) ∗ (∃ f : Buf (Elt F) (c.tc.loc cc2_stg0_0), (c.tc.loc cc2_stg0_0) ↦{fullShare} f) ∗ (∃ f : Buf (Elt F) (c.tc.loc cc2_stg0_1), (c.tc.loc cc2_stg0_1) ↦{fullShare} f) ∗ (∃ f : Buf (Elt F) (c.tc.loc cc2_stg1_0), (c.tc.loc cc2_stg1_0) ↦{fullShare} f) ∗ (∃ f : Buf (Elt F) (c.tc.loc cc2_stg1_1), (c.tc.loc cc2_stg1_1) ↦{fullShare} f) ∗ (∃ f : Buf (Elt F) (c.tc.loc cc2_stg2_0), (c.tc.loc cc2_stg2_0) ↦{fullShare} f) ∗ (∃ f : Buf (Elt F) (c.tc.loc cc2_stg2_1), (c.tc.loc cc2_stg2_1) ↦{fullShare} f))

/-- The first row block of the batch of point `t`. -/
def base (t : Fin cfg3.N) : Fin cfg3.N := ⟨8 * (t.val / 8), lt_of_le_of_lt (Nat.mul_div_le _ _) t.isLt⟩

/-- The keys of that batch, -/
def keysAt (c : Dev nD) (t : Fin cfg3.N) : Vec F S1024x512 .f32 := keys (iblk V c 0 (base t)) (iblk V c 5 (base t)) (iblk V c 6 (base t))
/-- and its values. -/
def valsAt (c : Dev nD) (t : Fin cfg3.N) : Vec F S1024x512 .f32 := vals (iblk V c 0 (base t)) (iblk V c 7 (base t)) (iblk V c 8 (base t))

/-- Between points: unless a batch begins, the scratch buffers hold the batch's keys and values. -/
def kept (c : Dev nD) (n : ℕ) : sProp 𝕄 :=
  iprop(∃ d0 d1, ⌜∀ s : Fin cfg3.N, s.val = n → ¬ s.val % 8 = 0 → d0 = keysAt V c s ∧ d1 = valsAt V c s⌝
    ∗ owns c.tc (Memref.whole cc3_scratch0) fullShare d0 ∗ owns c.tc (Memref.whole cc3_scratch1) fullShare d1)

/-- The call's proof data: its arrays as it finds them, each input window at its block, the output windows at what the
    point's rows attend to and their mask; between points the scratch buffers at the batch's keys and values. -/
def dat (c : Dev nD) : Dat τ (Elt F) (HIx 1) ℕ UU ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outv (grid3.coords t) (iblk V c 0 t) (iblk V c 1 t) (iblk V c 2 t) (iblk V c 3 t) (iblk V c 4 t) (iblk V c 9 t) (iblk V c 10 t) (keysAt V c t) (valsAt V c t)
    | ⟨12, _⟩ => maskv (iblk V c 1 t) (iblk V c 2 t)
  Φ t := iprop(others c ∗ kept V c t.val)
  q _ := fullShare
  owed _ := 0

theorem A_eq (c : Dev nD) (w : Fin cfg3.W) : (dat V c).A w = V c (Proc.devRef .tc (Pipeline.arrRef spec3 w)) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = outv (grid3.coords t) (iblk V c 0 t) (iblk V c 1 t) (iblk V c 2 t) (iblk V c 3 t) (iblk V c 4 t) (iblk V c 9 t) (iblk V c 10 t) (keysAt V c t) (valsAt V c t) := by dsimp only [dat]
theorem after_12 (c : Dev nD) (t : Fin cfg3.N) : (dat V c).after 12 t = maskv (iblk V c 1 t) (iblk V c 2 t) := by dsimp only [dat]
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg3.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg3.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg3.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg3.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg3.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg3.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg3.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-- The scoped buffers the call does not stage: the other calls' and its two scratch buffers. -/
theorem rest_eq (c : Dev nD) : (Pipeline.scopedRest spec3 c : sProp 𝕄)
    = iprop((∃ f : Buf (Elt F) (c.tc.loc cc1_stg0_0), (c.tc.loc cc1_stg0_0) ↦{fullShare} f) ∗ (∃ f : Buf (Elt F) (c.tc.loc cc1_stg1_0), (c.tc.loc cc1_stg1_0) ↦{fullShare} f) ∗ (∃ f : Buf (Elt F) (c.tc.loc cc1_stg1_1), (c.tc.loc cc1_stg1_1) ↦{fullShare} f) ∗ (∃ f : Buf (Elt F) (c.tc.loc cc1_stg2_0), (c.tc.loc cc1_stg2_0) ↦{fullShare} f) ∗ (∃ f : Buf (Elt F) (c.tc.loc cc1_stg3_0), (c.tc.loc cc1_stg3_0) ↦{fullShare} f) ∗ (∃ f : Buf (Elt F) (c.tc.loc cc1_stg4_0), (c.tc.loc cc1_stg4_0) ↦{fullShare} f) ∗ (∃ f : Buf (Elt F) (c.tc.loc cc1_stg5_0), (c.tc.loc cc1_stg5_0) ↦{fullShare} f) ∗ (∃ f : Buf (Elt F) (c.tc.loc cc1_stg5_1), (c.tc.loc cc1_stg5_1) ↦{fullShare} f) ∗ (∃ f : Buf (Elt F) (c.tc.loc cc2_stg0_0), (c.tc.loc cc2_stg0_0) ↦{fullShare} f) ∗ (∃ f : Buf (Elt F) (c.tc.loc cc2_stg0_1), (c.tc.loc cc2_stg0_1) ↦{fullShare} f) ∗ (∃ f : Buf (Elt F) (c.tc.loc cc2_stg1_0), (c.tc.loc cc2_stg1_0) ↦{fullShare} f) ∗ (∃ f : Buf (Elt F) (c.tc.loc cc2_stg1_1), (c.tc.loc cc2_stg1_1) ↦{fullShare} f) ∗ (∃ f : Buf (Elt F) (c.tc.loc cc2_stg2_0), (c.tc.loc cc2_stg2_0) ↦{fullShare} f) ∗ (∃ f : Buf (Elt F) (c.tc.loc cc2_stg2_1), (c.tc.loc cc2_stg2_1) ↦{fullShare} f) ∗ (∃ d, owns c.tc (Memref.whole cc3_scratch0) fullShare d) ∗ (∃ d, owns c.tc (Memref.whole cc3_scratch1) fullShare d)) := by
  rw [scopedRest3_eq]; simp only [owns_whole]; try rfl

theorem enter (c : Dev nD) : (Pipeline.scopedRest spec3 c : sProp 𝕄) ⊢ (dat V c).Φ 0 := by
  rw [rest_eq, show (dat V c).Φ 0 = iprop(others c ∗ kept V c 0) from rfl]
  unfold others kept
  iintro ⟨A0, A1, A2, A3, A4, A5, A6, A7, A8, A9, A10, A11, A12, A13, ⟨%d0, H0⟩, ⟨%d1, H1⟩⟩
  isplitr [H0 H1]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  iexists d0, d1
  isplitr; · ipureintro; intro s hs h; exact absurd (by rw [hs]) h
  isplitl [H0] <;> iassumption

theorem leave (c : Dev nD) : (dat V c).Φ (Fin.last cfg3.N) ⊢ (Pipeline.scopedRest spec3 c : sProp 𝕄) := by
  rw [rest_eq, show (dat V c).Φ (Fin.last cfg3.N) = iprop(others c ∗ kept V c cfg3.N) from rfl]
  unfold others kept
  iintro ⟨⟨A0, A1, A2, A3, A4, A5, A6, A7, A8, A9, A10, A11, A12, A13⟩, ⟨%d0, %d1, -, H0, H1⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [H0]
  · iexists d0; iexact H0
  iexists d1; iexact H1

theorem base_self {t : Fin cfg3.N} (h : t.val % 8 = 0) : base t = t := Fin.ext (by show 8 * (t.val / 8) = t.val; omega)
theorem base_next {s t : Fin cfg3.N} (e : s.val = t.val + 1) (h : ¬ s.val % 8 = 0) : base s = base t :=
  Fin.ext (by show 8 * (s.val / 8) = 8 * (t.val / 8); omega)

/-- What the body is called with at point `t`, the windows one by one, -/
def bodyPre (c : Dev nD) (t : Fin cfg3.N) : sProp 𝕄 :=
  iprop((dat V c).Φ t.castSucc ∗ (dat V c).owesAt none t.castSucc
    ∗ (∃ d, owns c.tc (st3_0 t) fullShare ((dat V c).before 0 t d))
    ∗ (∃ d, owns c.tc (st3_1 t) fullShare ((dat V c).before 1 t d))
    ∗ (∃ d, owns c.tc (st3_2 t) fullShare ((dat V c).before 2 t d))
    ∗ (∃ d, owns c.tc (st3_3 t) fullShare ((dat V c).before 3 t d))
    ∗ (∃ d, owns c.tc (st3_4 t) fullShare ((dat V c).before 4 t d))
    ∗ (∃ d, owns c.tc (st3_5 t) fullShare ((dat V c).before 5 t d))
    ∗ (∃ d, owns c.tc (st3_6 t) fullShare ((dat V c).before 6 t d))
    ∗ (∃ d, owns c.tc (st3_7 t) fullShare ((dat V c).before 7 t d))
    ∗ (∃ d, owns c.tc (st3_8 t) fullShare ((dat V c).before 8 t d))
    ∗ (∃ d, owns c.tc (st3_9 t) fullShare ((dat V c).before 9 t d))
    ∗ (∃ d, owns c.tc (st3_10 t) fullShare ((dat V c).before 10 t d))
    ∗ (∃ d, owns c.tc (st3_11 t) fullShare ((dat V c).before 11 t d))
    ∗ (∃ d, owns c.tc (st3_12 t) fullShare ((dat V c).before 12 t d)))

/-- and what it returns. -/
def bodyPost (c : Dev nD) (t : Fin cfg3.N) : sProp 𝕄 :=
  iprop((dat V c).Φ t.succ ∗ (dat V c).owesAt none t.succ
    ∗ owns c.tc (st3_0 t) fullShare ((dat V c).after 0 t)
    ∗ owns c.tc (st3_1 t) fullShare ((dat V c).after 1 t)
    ∗ owns c.tc (st3_2 t) fullShare ((dat V c).after 2 t)
    ∗ owns c.tc (st3_3 t) fullShare ((dat V c).after 3 t)
    ∗ owns c.tc (st3_4 t) fullShare ((dat V c).after 4 t)
    ∗ owns c.tc (st3_5 t) fullShare ((dat V c).after 5 t)
    ∗ owns c.tc (st3_6 t) fullShare ((dat V c).after 6 t)
    ∗ owns c.tc (st3_7 t) fullShare ((dat V c).after 7 t)
    ∗ owns c.tc (st3_8 t) fullShare ((dat V c).after 8 t)
    ∗ owns c.tc (st3_9 t) fullShare ((dat V c).after 9 t)
    ∗ owns c.tc (st3_10 t) fullShare ((dat V c).after 10 t)
    ∗ owns c.tc (st3_11 t) fullShare ((dat V c).after 11 t)
    ∗ owns c.tc (st3_12 t) fullShare ((dat V c).after 12 t))

theorem sound_body (c : Dev nD) (t : Fin cfg3.N) :
    bodyPre V c t ⊢ wp frame (wpE (defs₀ (F := F)) Variants.none c.tc none) Set.univ (bodyAt3 t) (fun _ => bodyPost V c t) := by
  unfold bodyPre bodyPost bodyAt3
  simp only [before_0, before_1, before_2, before_3, before_4, before_5, before_6, before_7, before_8, before_9, before_10]
  rw [show (dat V c).Φ t.castSucc = iprop(others c ∗ kept V c t.val) from rfl, show (dat V c).Φ t.succ = iprop(others c ∗ kept V c (t.val + 1)) from rfl,
    show (dat V c).owesAt none t.succ = (dat V c).owesAt none t.castSucc from rfl,
    after_0, after_1, after_2, after_3, after_4, after_5, after_6, after_7, after_8, after_9, after_10, after_11, after_12]
  unfold kept
  iintro ⟨⟨HO, ⟨%e0, %e1, %he, HS0, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hcarry : ∀ s : Fin cfg3.N, s.val = t.val + 1 → ¬ s.val % 8 = 0 → keysAt V c t = keysAt V c s ∧ valsAt V c t = valsAt V c s := fun s es hs => by
    unfold keysAt valsAt; rw [base_next es hs]; exact ⟨rfl, rfl⟩
  by_cases h : t.val % 8 = 0
  · rw [show keysAt V c t = keys (iblk V c 0 t) (iblk V c 5 t) (iblk V c 6 t) by unfold keysAt; rw [base_self h],
      show valsAt V c t = vals (iblk V c 0 t) (iblk V c 7 t) (iblk V c 8 t) by unfold valsAt; rw [base_self h]] at hcarry ⊢
    iapply (sound_first c Set.univ (grid3.coords t) _ _ _ _ _ _ _ _ _ _ _ _ _ _ _ _ _ _ _ _ _ _ _ _ _ _ _ _ _ _ ((first_iff t).mpr h) (iblk V c 0 t) (iblk V c 1 t) (iblk V c 2 t) (iblk V c 3 t) (iblk V c 4 t) (iblk V c 5 t) (iblk V c 6 t) (iblk V c 7 t) (iblk V c 8 t) (iblk V c 9 t) (iblk V c 10 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexists _; iexact HS0
    isplitl [HS1]; · iexists _; iexact HS1
    iintro ⟨H0, H1, H2, H3, H4, H5, H6, H7, H8, H9, H10, H11, H12, HS0, HS1⟩
    isplitl [HO HS0 HS1]
    · isplitl [HO]; · iexact HO
      iexists _, _
      isplitr; · ipureintro; exact hcarry
      isplitl [HS0] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · obtain ⟨rfl, rfl⟩ := he t rfl h
    iapply (sound_next c Set.univ (grid3.coords t) _ _ _ _ _ _ _ _ _ _ _ _ _ _ _ _ _ _ _ _ _ _ _ _ _ _ _ _ _ _ (fun hc => h ((first_iff t).mp hc)) (iblk V c 0 t) (iblk V c 1 t) (iblk V c 2 t) (iblk V c 3 t) (iblk V c 4 t) (iblk V c 5 t) (iblk V c 6 t) (iblk V c 7 t) (iblk V c 8 t) (iblk V c 9 t) (iblk V c 10 t) (keysAt V c t) (valsAt V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, H11, H12, HS0, HS1⟩
    isplitl [HO HS0 HS1]
    · isplitl [HO]; · iexact HO
      iexists _, _
      isplitr; · ipureintro; exact hcarry
      isplitl [HS0] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg3.N) : defs₀ (F := F) .tc cfg3.body (cfg3.bodyArgs t (cfg3.slots t)) = bodyAt3 t := by
  rfl

/-- The body meets its obligation at every point. -/
theorem body_obligation (c : Dev nD) : BodyObligation (dat V c) (defs₀ (F := F)) Variants.none none Set.univ := fun t => by
  rw [bigSep_W3, bigSep_W3, defs₀_row]
  exact triple_restated (sound_body V c t) rfl .rfl fun _ => .rfl

end Cert.Proof.OfKernelIdeal.Attn

end
-- ==== Proof.KernelIdealRun.lean ====
/-
  The whole program's run: @main, its four calls and the host operations between them, from the launch contents of the TensorCore's arrays
  to their last contents.
-/
module

public import proofs.«01_k».proof.Proof.KernelIdealRegion
public import proofs.«01_k».proof.Proof.KernelIdealTopo
public import proofs.«01_k».proof.Proof.KernelIdealColmask
public import proofs.«01_k».proof.Proof.KernelIdealAttn
public import Idealize.ShloMosaic.Lib.ValueLayout

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.ShloMosaic.Pipeline (Dat)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable [FloatOps F] [∀ e, Nonempty (Elt F e)] (m : (ℓ : Loc nD τ sig) → Buf (Elt F) ℓ) (ρ : Dev nD → PrngReg)

abbrev op0 : HloOp τ sig (Elt F) := StableHlo.unary main_arg1 main_v0 ((extractStridedSlice S1x16384 ![0, 0] · slices_S2x16384_S1x16384_0_0) : (⟨S2x16384, .i32⟩ : BufTy).Contents (Elt F) → (⟨S1x16384, .i32⟩ : BufTy).Contents (Elt F))
abbrev op1 : HloOp τ sig (Elt F) := StableHlo.reshape main_v0 main_v1 (rfl : (.i32 : EltTy) = .i32) shapeCasts_S1x16384_S16384
abbrev op2 : HloOp τ sig (Elt F) := StableHlo.unary main_arg1 main_v2 ((extractStridedSlice S1x16384 ![1, 0] · slices_S2x16384_S1x16384_1_0) : (⟨S2x16384, .i32⟩ : BufTy).Contents (Elt F) → (⟨S1x16384, .i32⟩ : BufTy).Contents (Elt F))
abbrev op3 : HloOp τ sig (Elt F) := StableHlo.reshape main_v2 main_v3 (rfl : (.i32 : EltTy) = .i32) shapeCasts_S1x16384_S16384
abbrev op5 : HloOp τ sig (Elt F) := StableHlo.unary main_arg10 main_v5 ((transpose S512x256 [1, 0] · transposes_S256x512_S512x256_1_0) : (⟨S256x512, .f32⟩ : BufTy).Contents (Elt F) → (⟨S512x256, .f32⟩ : BufTy).Contents (Elt F))
abbrev op6 : HloOp τ sig (Elt F) := StableHlo.reshape main_arg11 main_v6 (rfl : (.f32 : EltTy) = .f32) shapeCasts_S256_S1x256
abbrev op8 : HloOp τ sig (Elt F) := StableHlo.reshape main_v7 main_v8 (rfl : (.f32 : EltTy) = .f32) shapeCasts_S4x1x1024_S4x1024x1
abbrev op10 : HloOp τ sig (Elt F) := StableHlo.unary main_arg2 main_v10 ((transpose S512x512 [1, 0] · transposes_S512x512_S512x512_1_0) : (⟨S512x512, .f32⟩ : BufTy).Contents (Elt F) → (⟨S512x512, .f32⟩ : BufTy).Contents (Elt F))
abbrev op11 : HloOp τ sig (Elt F) := StableHlo.reshape main_arg3 main_v11 (rfl : (.f32 : EltTy) = .f32) shapeCasts_S512_S1x512
abbrev op12 : HloOp τ sig (Elt F) := StableHlo.unary main_arg4 main_v12 ((transpose S512x512 [1, 0] · transposes_S512x512_S512x512_1_0) : (⟨S512x512, .f32⟩ : BufTy).Contents (Elt F) → (⟨S512x512, .f32⟩ : BufTy).Contents (Elt F))
abbrev op13 : HloOp τ sig (Elt F) := StableHlo.reshape main_arg5 main_v13 (rfl : (.f32 : EltTy) = .f32) shapeCasts_S512_S1x512
abbrev op14 : HloOp τ sig (Elt F) := StableHlo.unary main_arg6 main_v14 ((transpose S512x512 [1, 0] · transposes_S512x512_S512x512_1_0) : (⟨S512x512, .f32⟩ : BufTy).Contents (Elt F) → (⟨S512x512, .f32⟩ : BufTy).Contents (Elt F))
abbrev op15 : HloOp τ sig (Elt F) := StableHlo.reshape main_arg7 main_v15 (rfl : (.f32 : EltTy) = .f32) shapeCasts_S512_S1x512
abbrev op16 : HloOp τ sig (Elt F) := StableHlo.unary main_arg8 main_v16 ((transpose S512x512 [1, 0] · transposes_S512x512_S512x512_1_0) : (⟨S512x512, .f32⟩ : BufTy).Contents (Elt F) → (⟨S512x512, .f32⟩ : BufTy).Contents (Elt F))
abbrev op17 : HloOp τ sig (Elt F) := StableHlo.reshape main_arg9 main_v17 (rfl : (.f32 : EltTy) = .f32) shapeCasts_S512_S1x512

abbrev ops0 : List (HloOp τ sig (Elt F)) := [op0, op1, op2, op3]
abbrev ops1 : List (HloOp τ sig (Elt F)) := [op5, op6]
abbrev ops2 : List (HloOp τ sig (Elt F)) := [op8]
abbrev ops3 : List (HloOp τ sig (Elt F)) := [op10, op11, op12, op13, op14, op15, op16, op17]

/-! ## The arrays' contents, call by call -/

/-- At launch, -/
def V0 (d : Dev nD) : Valuation τ sig (Elt F) := fun b => m (d, b)
/-- at the SparseCore call, -/
def V4 (d : Dev nD) : Valuation τ sig (Elt F) := StableHlo.after ops0 (V0 m d)
/-- after it, -/
def V5 (d : Dev nD) : Valuation τ sig (Elt F) := afterCall (V4 m d)
/-- at the score call, -/
def V7 (d : Dev nD) : Valuation τ sig (Elt F) := StableHlo.after ops1 (V5 m d)
/-- after it, -/
def V8 (d : Dev nD) : Valuation τ sig (Elt F) := Pipeline.afterRegion (Topo.dat (V7 m) d) (V7 m d)
/-- at the rank call, -/
def V9 (d : Dev nD) : Valuation τ sig (Elt F) := StableHlo.after ops2 (V8 m d)
/-- after it, -/
def V10 (d : Dev nD) : Valuation τ sig (Elt F) := Pipeline.afterRegion (Colmask.dat (V9 m) d) (V9 m d)
/-- at the attention call, -/
def V18 (d : Dev nD) : Valuation τ sig (Elt F) := StableHlo.after ops3 (V10 m d)
/-- and after it. -/
def V19 (d : Dev nD) : Valuation τ sig (Elt F) := Pipeline.afterRegion (Attn.dat (V18 m) d) (V18 m d)

/-- The three TensorCore calls, each over the contents it finds. -/
def pd : (p : Fin 3) → (c : Dev nD) → Dat τ (Elt F) (HIx 1) ℕ UU ℕ (Pipeline.pin (pcfgs (F := F)) adm p) c
  | 0 => Topo.dat (V7 m)
  | 1 => Colmask.dat (V9 m)
  | 2 => Attn.dat (V18 m)

/-- The call's three arrays as it finds them. -/
def Rm (d : Dev nD) : Buf (Elt F) (rLoc d) := V4 m d r'
def Cm (d : Dev nD) : Buf (Elt F) (cLoc d) := V4 m d c'
def Om (d : Dev nD) : Buf (Elt F) (oLoc d) := V4 m d o'

abbrev aLoc (d : Dev nD) : Loc nD τ sig := (SparseCore.T d).loc main_arg1

/-- The edge array's words, as the TensorCore's launch memory holds them. -/
def edges (d : Dev nD) : S2x16384.Idx → BitVec 32 := m (aLoc d)

/-- The list of rows is row 0 of the edge array, the list of columns row 1. -/
theorem Rm_eq (d : Dev nD) (e : Fin 16384) : (Rm m d : S16384.Idx → BitVec 32) (ix1 e) = edges m d (ix2 (0 : Fin 2) e) := by
  have h : (Rm m d : S16384.Idx → BitVec 32) = shapeCast S16384 (extractStridedSlice S1x16384 ![0, 0] (edges m d) slices_S2x16384_S1x16384_0_0) shapeCasts_S1x16384_S16384 := by
    unfold Rm V4 ops0
    after_results_simp
    rfl
  rw [h]
  refine (shapeCast_1a_a_apply _ shapeCasts_S1x16384_S16384 e).trans ?_
  refine congrArg (edges m d) (funext fun a => Fin.ext ?_)
  match a with
  | 0 => rfl
  | 1 => show 0 + e.val = e.val; omega
theorem Cm_eq (d : Dev nD) (e : Fin 16384) : (Cm m d : S16384.Idx → BitVec 32) (ix1 e) = edges m d (ix2 (1 : Fin 2) e) := by
  have h : (Cm m d : S16384.Idx → BitVec 32) = shapeCast S16384 (extractStridedSlice S1x16384 ![1, 0] (edges m d) slices_S2x16384_S1x16384_1_0) shapeCasts_S1x16384_S16384 := by
    unfold Cm V4 ops0
    after_results_simp
    rfl
  rw [h]
  refine (shapeCast_1a_a_apply _ shapeCasts_S1x16384_S16384 e).trans ?_
  refine congrArg (edges m d) (funext fun a => Fin.ext ?_)
  match a with
  | 0 => rfl
  | 1 => show 0 + e.val = e.val; omega

/-- Edges that name rows and columns below 1024 make lists that do. -/
theorem inRange (h : ∀ d j, (edges m d j).toNat < 1024) : InRange (Rm m) (Cm m) := fun d j => by
  rw [eq_ix1 j]
  exact ⟨(congrArg BitVec.toNat (Rm_eq m d (j 0))).trans_lt (h d _), (congrArg BitVec.toNat (Cm_eq m d (j 0))).trans_lt (h d _)⟩

theorem unscoped_held (d : Dev nD) :
    (unscopedBufs d (fun b => m ((SparseCore.T d).loc b)) : sProp 𝕄) = held (d.tc : Thread nD τ) (Pipeline.ucRefs τ sig) (V0 m d) :=
  Pipeline.unscopedBufs_held d (V0 m d)

theorem ops0_sub : ∀ op ∈ ops0 (F := F), op.bufs ⊆ Pipeline.ucRefs τ sig := by
  simp only [ops0, List.forall_mem_cons, List.not_mem_nil, false_imp_iff, implies_true, and_true]
  exact ⟨show ({Proc.devRef .tc main_arg1, Proc.devRef .tc main_v0} : Finset (DevRef τ sig)) ⊆ _ by decide,
    show ({Proc.devRef .tc main_v0, Proc.devRef .tc main_v1} : Finset (DevRef τ sig)) ⊆ _ by decide,
    show ({Proc.devRef .tc main_arg1, Proc.devRef .tc main_v2} : Finset (DevRef τ sig)) ⊆ _ by decide,
    show ({Proc.devRef .tc main_v2, Proc.devRef .tc main_v3} : Finset (DevRef τ sig)) ⊆ _ by decide⟩
theorem ops0_fresh : ∀ op ∈ ops0 (F := F), op.fresh = ∅ := by
  simp only [ops0, List.forall_mem_cons, List.not_mem_nil, false_imp_iff, implies_true, and_true]
  exact ⟨rfl, rfl, rfl, rfl⟩
theorem ops1_sub : ∀ op ∈ ops1 (F := F), op.bufs ⊆ Pipeline.ucRefs τ sig := by
  simp only [ops1, List.forall_mem_cons, List.not_mem_nil, false_imp_iff, implies_true, and_true]
  exact ⟨show ({Proc.devRef .tc main_arg10, Proc.devRef .tc main_v5} : Finset (DevRef τ sig)) ⊆ _ by decide,
    show ({Proc.devRef .tc main_arg11, Proc.devRef .tc main_v6} : Finset (DevRef τ sig)) ⊆ _ by decide⟩
theorem ops1_fresh : ∀ op ∈ ops1 (F := F), op.fresh = ∅ := by
  simp only [ops1, List.forall_mem_cons, List.not_mem_nil, false_imp_iff, implies_true, and_true]
  exact ⟨rfl, rfl⟩
theorem ops2_sub : ∀ op ∈ ops2 (F := F), op.bufs ⊆ Pipeline.ucRefs τ sig := by
  simp only [ops2, List.forall_mem_cons, List.not_mem_nil, false_imp_iff, implies_true, and_true]
  exact show ({Proc.devRef .tc main_v7, Proc.devRef .tc main_v8} : Finset (DevRef τ sig)) ⊆ _ by decide
theorem ops2_fresh : ∀ op ∈ ops2 (F := F), op.fresh = ∅ := by
  simp only [ops2, List.forall_mem_cons, List.not_mem_nil, false_imp_iff, implies_true, and_true]
  exact rfl
theorem ops3_sub : ∀ op ∈ ops3 (F := F), op.bufs ⊆ Pipeline.ucRefs τ sig := by
  simp only [ops3, List.forall_mem_cons, List.not_mem_nil, false_imp_iff, implies_true, and_true]
  exact ⟨show ({Proc.devRef .tc main_arg2, Proc.devRef .tc main_v10} : Finset (DevRef τ sig)) ⊆ _ by decide,
    show ({Proc.devRef .tc main_arg3, Proc.devRef .tc main_v11} : Finset (DevRef τ sig)) ⊆ _ by decide,
    show ({Proc.devRef .tc main_arg4, Proc.devRef .tc main_v12} : Finset (DevRef τ sig)) ⊆ _ by decide,
    show ({Proc.devRef .tc main_arg5, Proc.devRef .tc main_v13} : Finset (DevRef τ sig)) ⊆ _ by decide,
    show ({Proc.devRef .tc main_arg6, Proc.devRef .tc main_v14} : Finset (DevRef τ sig)) ⊆ _ by decide,
    show ({Proc.devRef .tc main_arg7, Proc.devRef .tc main_v15} : Finset (DevRef τ sig)) ⊆ _ by decide,
    show ({Proc.devRef .tc main_arg8, Proc.devRef .tc main_v16} : Finset (DevRef τ sig)) ⊆ _ by decide,
    show ({Proc.devRef .tc main_arg9, Proc.devRef .tc main_v17} : Finset (DevRef τ sig)) ⊆ _ by decide⟩
theorem ops3_fresh : ∀ op ∈ ops3 (F := F), op.fresh = ∅ := by
  simp only [ops3, List.forall_mem_cons, List.not_mem_nil, false_imp_iff, implies_true, and_true]
  exact ⟨rfl, rfl, rfl, rfl, rfl, rfl, rfl, rfl⟩

/-- A call of a TensorCore kernel. -/
abbrev tc (p : Fin 3) : Prog (TpuEff nD τ sig (Elt F) (SparseCore.Sig (Pipeline.Sig Λ₀ (Fin 3) fun p => (pcfgs (F := F) p).Adm) 1) .tc) PUnit :=
  Prog.lift (.customCall (SparseCore.inner (Pipeline.entry p)) ())

theorem main_eq (d : Dev nD) : main (F := F) d = StableHlo.seq ops0 >>= fun _ => (K (F := F)).run d 0 >>= fun _ => StableHlo.seq ops1 >>= fun _ => tc 0 >>= fun _ =>
    StableHlo.seq ops2 >>= fun _ => tc 1 >>= fun _ => StableHlo.seq ops3 >>= fun _ => tc 2 := by
  simp only [main, StableHlo.seq, bind_assoc, pure_bind]
  rfl

theorem uc1 : Pipeline.arrRefs (τ := τ) spec1 ⊆ Pipeline.ucRefs τ sig := Pipeline.arrRefs_sub_ucRefs spec1 (by decide)
theorem uc2 : Pipeline.arrRefs (τ := τ) spec2 ⊆ Pipeline.ucRefs τ sig := Pipeline.arrRefs_sub_ucRefs spec2 (by decide)
theorem uc3 : Pipeline.arrRefs (τ := τ) spec3 ⊆ Pipeline.ucRefs τ sig := Pipeline.arrRefs_sub_ucRefs spec3 (by decide)

theorem enter0 (c : Dev nD) : Pipeline.scopedRest spec1 c ⊢ (Topo.dat (V7 m) c).Φ 0 := .rfl
theorem leave0 (c : Dev nD) : (Topo.dat (V7 m) c).Φ (Fin.last cfg1.N) ⊢ Pipeline.scopedRest spec1 c := .rfl
theorem begin0 (c : Dev nD) (w : Fin cfg1.W) : (Topo.dat (V7 m) c).arrAt w 0 = V7 m c (Proc.devRef .tc (Pipeline.arrRef spec1 w)) := Topo.A_eq (V7 m) c w
theorem run0 (κ : GSem nD τ sig → ℕ) (d : Dev nD) {Q : PUnit → sProp 𝕄} :
    iprop((K (F := F)).ctx EH (P (Rm m) (Cm m) (Om m)) κ ∗ (K (F := F)).tcSt EH d 1 ∗ boundary (T d) ∗ held (T d) (Pipeline.ucRefs τ sig) (V7 m d)
        ∗ Pipeline.cellsGhost cfgs EP 0 d ∗ Pipeline.toksInit cfgs EP 0 d
        ∗ (((K (F := F)).tcSt EH d 1 ∗ boundary (T d) ∗ held (T d) (Pipeline.ucRefs τ sig) (V8 m d)) -∗ Q ⟨⟩))
      ⊢ wp frame (wpE ((K (F := F)).defs (D (F := F))) 𝒱 (T d) none) Set.univ (tc 0) Q :=
  region (Rm m) (Cm m) (Om m) (pd m) 0 launch1.toP rfl (fun c => (Topo.body_obligation (V7 m) c).loose) (fun _ _ => rfl) (fun _ => rfl)
    (fun c => (Topo.dat (V7 m) c).share_full fun _ => rfl) (enter0 m) (leave0 m) uc1 (V7 m) (begin0 m) κ d

theorem enter1 (c : Dev nD) : Pipeline.scopedRest spec2 c ⊢ (Colmask.dat (V9 m) c).Φ 0 := .rfl
theorem leave1 (c : Dev nD) : (Colmask.dat (V9 m) c).Φ (Fin.last cfg2.N) ⊢ Pipeline.scopedRest spec2 c := .rfl
theorem begin1 (c : Dev nD) (w : Fin cfg2.W) : (Colmask.dat (V9 m) c).arrAt w 0 = V9 m c (Proc.devRef .tc (Pipeline.arrRef spec2 w)) := Colmask.A_eq (V9 m) c w
theorem run1 (κ : GSem nD τ sig → ℕ) (d : Dev nD) {Q : PUnit → sProp 𝕄} :
    iprop((K (F := F)).ctx EH (P (Rm m) (Cm m) (Om m)) κ ∗ (K (F := F)).tcSt EH d 1 ∗ boundary (T d) ∗ held (T d) (Pipeline.ucRefs τ sig) (V9 m d)
        ∗ Pipeline.cellsGhost cfgs EP 1 d ∗ Pipeline.toksInit cfgs EP 1 d
        ∗ (((K (F := F)).tcSt EH d 1 ∗ boundary (T d) ∗ held (T d) (Pipeline.ucRefs τ sig) (V10 m d)) -∗ Q ⟨⟩))
      ⊢ wp frame (wpE ((K (F := F)).defs (D (F := F))) 𝒱 (T d) none) Set.univ (tc 1) Q :=
  region (Rm m) (Cm m) (Om m) (pd m) 1 launch2.toP rfl (fun c => (Colmask.body_obligation (V9 m) c).loose) (fun _ _ => rfl) (fun _ => rfl)
    (fun c => (Colmask.dat (V9 m) c).share_full fun _ => rfl) (enter1 m) (leave1 m) uc2 (V9 m) (begin1 m) κ d

theorem enter2 (c : Dev nD) : Pipeline.scopedRest spec3 c ⊢ (Attn.dat (V18 m) c).Φ 0 := Attn.enter (V18 m) c
theorem leave2 (c : Dev nD) : (Attn.dat (V18 m) c).Φ (Fin.last cfg3.N) ⊢ Pipeline.scopedRest spec3 c := Attn.leave (V18 m) c
theorem begin2 (c : Dev nD) (w : Fin cfg3.W) : (Attn.dat (V18 m) c).arrAt w 0 = V18 m c (Proc.devRef .tc (Pipeline.arrRef spec3 w)) := Attn.A_eq (V18 m) c w
theorem run2 (κ : GSem nD τ sig → ℕ) (d : Dev nD) {Q : PUnit → sProp 𝕄} :
    iprop((K (F := F)).ctx EH (P (Rm m) (Cm m) (Om m)) κ ∗ (K (F := F)).tcSt EH d 1 ∗ boundary (T d) ∗ held (T d) (Pipeline.ucRefs τ sig) (V18 m d)
        ∗ Pipeline.cellsGhost cfgs EP 2 d ∗ Pipeline.toksInit cfgs EP 2 d
        ∗ (((K (F := F)).tcSt EH d 1 ∗ boundary (T d) ∗ held (T d) (Pipeline.ucRefs τ sig) (V19 m d)) -∗ Q ⟨⟩))
      ⊢ wp frame (wpE ((K (F := F)).defs (D (F := F))) 𝒱 (T d) none) Set.univ (tc 2) Q :=
  region (Rm m) (Cm m) (Om m) (pd m) 2 launch3.toP rfl (fun c => (Attn.body_obligation (V18 m) c).loose) (fun _ _ => rfl) (fun _ => rfl)
    (fun c => (Attn.dat (V18 m) c).share_full fun _ => rfl) (enter2 m) (leave2 m) uc3 (V18 m) (begin2 m) κ d

/-- What @main leaves of the arrays. -/
abbrev FIN (d : Dev nD) : sProp 𝕄 := held (T d) (Pipeline.ucRefs τ sig) (V19 m d)

/-- @main on device `d`'s TensorCore. -/
theorem hmain (κ : GSem nD τ sig → ℕ) (d : Dev nD) :
    iprop((K (F := F)).ctx EH (P (Rm m) (Cm m) (Om m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscoped_held, main_eq, bigSep_univ_succ (fun p : Fin 3 => (Pipeline.cellsGhost cfgs EP p d : sProp 𝕄)), bigSep_univ_succ (fun p : Fin 3 => (Pipeline.toksInit cfgs EP p d : sProp 𝕄)),
    bigSep_univ_two, bigSep_univ_two]
  iintro ⟨#Hctx, Hst, ⟨Hb, Hheld, Hts, -⟩, ⟨Hg0, Hg1, Hg2⟩, Ht0, Ht1, Ht2⟩
  iapply (StableHlo.wp_seq 𝒱 none Set.univ d (Pipeline.ucRefs τ sig) _ ops0 ops0_sub ops0_fresh (V0 m d)) $$ [Hb Hheld]
  · isplitl [Hb] <;> iassumption
  iintro ⟨Hb, Hheld⟩
  rw [wp_bind]
  iapply (call (Rm m) (Cm m) (Om m) (V4 m) (fun _ => rfl) (fun _ => rfl) (fun _ => rfl) κ d)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ ops1 ops1_sub ops1_fresh (V5 m d)) $$ [Hb Hheld]
  · isplitl [Hb]; · iexact Hb
    iexact Hheld
  iintro ⟨Hb, Hheld⟩
  rw [wp_bind]
  iapply (run0 m κ d)
  isplitr; · iexact Hctx
  isplitl [Hst]; · iexact Hst
  isplitl [Hb]; · iexact Hb
  isplitl [Hheld]; · iexact Hheld
  isplitl [Hg0]; · iexact Hg0
  isplitl [Ht0]; · iexact Ht0
  iintro ⟨Hst, Hb, Hheld⟩
  iapply (StableHlo.wp_seq 𝒱 none Set.univ d (Pipeline.ucRefs τ sig) _ ops2 ops2_sub ops2_fresh (V8 m d)) $$ [Hb Hheld]
  · isplitl [Hb]; · iexact Hb
    iexact Hheld
  iintro ⟨Hb, Hheld⟩
  rw [wp_bind]
  iapply (run1 m κ d)
  isplitr; · iexact Hctx
  isplitl [Hst]; · iexact Hst
  isplitl [Hb]; · iexact Hb
  isplitl [Hheld]; · iexact Hheld
  isplitl [Hg1]; · iexact Hg1
  isplitl [Ht1]; · iexact Ht1
  iintro ⟨Hst, Hb, Hheld⟩
  iapply (StableHlo.wp_seq 𝒱 none Set.univ d (Pipeline.ucRefs τ sig) _ ops3 ops3_sub ops3_fresh (V10 m d)) $$ [Hb Hheld]
  · isplitl [Hb]; · iexact Hb
    iexact Hheld
  iintro ⟨Hb, Hheld⟩
  iapply (run2 m κ d)
  isplitr; · iexact Hctx
  isplitl [Hst]; · iexact Hst
  isplitl [Hb]; · iexact Hb
  isplitl [Hheld]; · iexact Hheld
  isplitl [Hg2]; · iexact Hg2
  isplitl [Ht2]; · iexact Ht2
  iintro ⟨Hst, Hb, Hheld⟩
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = V19 m d b

theorem hfin (d : Dev nD) (s' : Phys nD τ sig (Elt F)) : iprop(FIN m d ∗ SI s') ⊢ (⌜fq m d s'⌝ : sProp 𝕄) := by
  refine BIBase.Entails.trans (Laws.forall_intro fun x : {b : DevRef τ sig // b ∈ Pipeline.ucRefs τ sig} => ?_)
    (Laws.pure_forall.2.trans (Laws.pure_mono fun h b hb => h ⟨b, hb⟩) : (iprop(∀ x : {b : DevRef τ sig // b ∈ Pipeline.ucRefs τ sig}, ⌜s'.mem.mem (d, x.1) = V19 m d x.1⌝) : sProp 𝕄) ⊢ _)
  obtain ⟨b, hb⟩ := x
  unfold FIN held
  rw [SparseCore.bigSep_erase' hb]
  iintro ⟨⟨Ha, -⟩, HSI⟩
  ihave H := (SI_pointsTo_agree (st := s') (ℓ := ((d, b) : Loc nD τ sig)) (I := Finset.univ) (q := fullShare) (f := V19 m d b)) $$ [HSI Ha]
  · isplitl [HSI] <;> iassumption
  icases H with %h
  ipureintro; exact funext fun i => h i (Finset.mem_univ i)

def QC : PUnit × MemSt nD τ sig (Elt F) → Prop := fun r =>
  (∀ d : Dev nD, ∀ b ∈ Pipeline.ucRefs τ sig, r.2.mem (d, b) = V19 m d b) ∧ r.2.sem = fun _ => 0

/-- From a memory whose edges name rows and columns below 1024 the program runs to the last contents. -/
theorem run_main (hpre : InRange (Rm m) (Cm m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (Rm m) (Cm m) (Om m)) (A := ∅) facts v₀
    (fun q hq => match q with | 0 => nomatch hq)
    (fun q _ => match q with | 0 => tileObl (Rm m) (Cm m) (Om m) facts hpre)
    (fun q _ => match q with | 0 => SparseCore.Cfg.VecSplit.of_plain (vecSplit (Rm m) (Cm m) (Om m)))
    m ρ main G (FIN m) (u₀ (F := F)) (sep_elim_left.trans (hu₀ (Rm m) (Cm m) (Om m))) (hmain m ρ) (fq m) (hfin m) (QC m) (fun _ h hz => ⟨h, hz⟩)

end Cert.Proof.OfKernelIdeal

end
-- ==== Proof.KernelIdealKept.lean ====
/-
  What each stretch of @main leaves alone: an array it does not write holds what it held before.
-/
module

public import proofs.«01_k».proof.Proof.KernelIdealRun
public import Idealize.ShloMosaic.Lib.StableHlo.RunRead

@[expose] public section

noncomputable section

namespace Cert.Proof.OfKernelIdeal

open Cert.KernelIdeal Cert.KernelIdeal.Gen
open Idealize.ShloMosaic

variable {F : FTy → Type} [FloatOps F] [∀ e, Nonempty (Elt F e)] (m : (ℓ : Loc nD τ sig) → Buf (Elt F) ℓ) (d : Dev nD)

theorem keep4 (r : Ref sig .tc) (h : r ∉ [main_v0, main_v1, main_v2, main_v3]) : V4 m d (Proc.devRef .tc r) = V0 m d (Proc.devRef .tc r) :=
  StableHlo.after_unwritten [main_v0, main_v1, main_v2, main_v3] rfl h _
theorem keep5 (r : Ref sig .tc) (h : r ≠ main_v4) : V5 m d (Proc.devRef .tc r) = V4 m d (Proc.devRef .tc r) :=
  Function.update_of_ne (fun e => h (Proc.devRef_injective _ e)) _ _
theorem keep7 (r : Ref sig .tc) (h : r ∉ [main_v5, main_v6]) : V7 m d (Proc.devRef .tc r) = V5 m d (Proc.devRef .tc r) :=
  StableHlo.after_unwritten [main_v5, main_v6] rfl h _
theorem keep8 (r : Ref sig .tc) (h : r ≠ main_v7) : V8 m d (Proc.devRef .tc r) = V7 m d (Proc.devRef .tc r) :=
  Pipeline.afterRegion_keeps (Topo.dat (V7 m) d) (V7 m d) (by decide) (Topo.A_eq (V7 m) d) r (fun w e => by subst e; revert h; revert w; decide)
theorem keep9 (r : Ref sig .tc) (h : r ∉ [main_v8]) : V9 m d (Proc.devRef .tc r) = V8 m d (Proc.devRef .tc r) :=
  StableHlo.after_unwritten [main_v8] rfl h _
theorem keep10 (r : Ref sig .tc) (h : r ≠ main_v9) : V10 m d (Proc.devRef .tc r) = V9 m d (Proc.devRef .tc r) :=
  Pipeline.afterRegion_keeps (Colmask.dat (V9 m) d) (V9 m d) (by decide) (Colmask.A_eq (V9 m) d) r (fun w e => by subst e; revert h; revert w; decide)
theorem keep18 (r : Ref sig .tc) (h : r ∉ [main_v10, main_v11, main_v12, main_v13, main_v14, main_v15, main_v16, main_v17]) : V18 m d (Proc.devRef .tc r) = V10 m d (Proc.devRef .tc r) :=
  StableHlo.after_unwritten [main_v10, main_v11, main_v12, main_v13, main_v14, main_v15, main_v16, main_v17] rfl h _
theorem keep19 (r : Ref sig .tc) (h : r ∉ [main_v18_0, main_v18_1]) : V19 m d (Proc.devRef .tc r) = V18 m d (Proc.devRef .tc r) :=
  Pipeline.afterRegion_keeps (Attn.dat (V18 m) d) (V18 m d) (by decide) (Attn.A_eq (V18 m) d) r (fun w e => by subst e; revert h; revert w; decide)

/-- The arguments. -/
abbrev args : List (Ref sig .tc) := [main_arg0, main_arg1, main_arg2, main_arg3, main_arg4, main_arg5, main_arg6, main_arg7, main_arg8, main_arg9, main_arg10, main_arg11, main_arg12, main_arg13]

theorem args_unwritten : ∀ r ∈ args, r ∉ [main_v0, main_v1, main_v2, main_v3] ∧ r ≠ main_v4 ∧ r ∉ [main_v5, main_v6] ∧ r ≠ main_v7 ∧ r ∉ [main_v8] ∧ r ≠ main_v9
    ∧ r ∉ [main_v10, main_v11, main_v12, main_v13, main_v14, main_v15, main_v16, main_v17] ∧ r ∉ [main_v18_0, main_v18_1] := by decide

/-- The arguments keep their launch contents up to the score call, -/
theorem arg5 (r : Ref sig .tc) (h : r ∈ args) : V5 m d (Proc.devRef .tc r) = m (d, Proc.devRef .tc r) := by
  obtain ⟨h0, h1, h2, h3, h4, h5, h6, h7⟩ := args_unwritten r h
  exact (keep5 m d r h1).trans (keep4 m d r h0)
theorem arg7 (r : Ref sig .tc) (h : r ∈ args) : V7 m d (Proc.devRef .tc r) = m (d, Proc.devRef .tc r) := by
  obtain ⟨h0, h1, h2, h3, h4, h5, h6, h7⟩ := args_unwritten r h
  exact (keep7 m d r h2).trans (arg5 m d r h)
/-- up to the attention call's operands, -/
theorem arg10 (r : Ref sig .tc) (h : r ∈ args) : V10 m d (Proc.devRef .tc r) = m (d, Proc.devRef .tc r) := by
  obtain ⟨h0, h1, h2, h3, h4, h5, h6, h7⟩ := args_unwritten r h
  exact (keep10 m d r h5).trans ((keep9 m d r h4).trans ((keep8 m d r h3).trans (arg7 m d r h)))
theorem arg18 (r : Ref sig .tc) (h : r ∈ args) : V18 m d (Proc.devRef .tc r) = m (d, Proc.devRef .tc r) := by
  obtain ⟨h0, h1, h2, h3, h4, h5, h6, h7⟩ := args_unwritten r h
  exact (keep18 m d r h6).trans (arg10 m d r h)
/-- and to the end. -/
theorem arg19 (r : Ref sig .tc) (h : r ∈ args) : V19 m d (Proc.devRef .tc r) = m (d, Proc.devRef .tc r) := by
  obtain ⟨h0, h1, h2, h3, h4, h5, h6, h7⟩ := args_unwritten r h
  exact (keep19 m d r h7).trans (arg18 m d r h)

theorem args_uc : ∀ r ∈ args, Proc.devRef .tc r ∈ Pipeline.ucRefs τ sig := by decide

end Cert.Proof.OfKernelIdeal
end
-- ==== Proof.Spec.lean ====
/-
  What the block computes, index by index over the extended reals, as the kernel arranges it.
-/
module

public import Idealize.ShloMosaic.Lib.Pointwise

@[expose] public section

noncomputable section

namespace Cert.Proof.Spec

open Idealize.ShloMosaic

/-- One where the fact holds, zero elsewhere. -/
def ind (p : Prop) [Decidable p] : EReal := if p then 1 else 0

theorem ind_word (p : Prop) [Decidable p] :
    (FloatOps.sitofp (F := Ideal) .f32 (BitVec.setWidth 32 (BitVec.ofBool (decide p))) : EReal) = ind p := by
  by_cases h : p
  · show ((BitVec.toInt _ : ℝ) : EReal) = _
    simp [ind, h]
  · show ((BitVec.toInt _ : ℝ) : EReal) = _
    simp [ind, h]

/-- The column `u` of head `h` among the 512. -/
def col (h : Fin 8) (u : Fin 64) : Fin 512 := ⟨64 * h.val + u.val, by omega⟩
/-- The head a column belongs to. -/
def headOf (c : Fin 512) : Fin 8 := ⟨c.val / 64, by omega⟩

/-- The scale of the scores, an eighth, -/
abbrev scale : EReal := Ideal.ofBits .f32 1040187392#32
/-- the small number of the normalisation, -/
abbrev small : EReal := Ideal.ofBits .f32 841731191#32
/-- and the bottom a maximum starts from. -/
abbrev bottom : EReal := Ideal.ofBits .f32 4286578688#32

/-- The score of a query row against key row `j`, in head `h`, -/
def logit (q : Fin 512 → EReal) (k : Fin 1024 → Fin 512 → EReal) (h : Fin 8) (j : Fin 1024) : EReal :=
  (∑ u : Fin 64, q (col h u) * k j (col h u)) * scale
/-- the largest of them, -/
def peak (q : Fin 512 → EReal) (k : Fin 1024 → Fin 512 → EReal) (h : Fin 8) : EReal :=
  Finset.fold max bottom (logit q k h) Finset.univ
/-- and its exponential below the largest. -/
def ex (q : Fin 512 → EReal) (k : Fin 1024 → Fin 512 → EReal) (h : Fin 8) (j : Fin 1024) : EReal :=
  Ideal.exp (logit q k h j - peak q k h)

/-- What a query row attends to at column `c`: the masked exponentials weigh the values, and one division normalises. -/
def attend (q : Fin 512 → EReal) (k v : Fin 1024 → Fin 512 → EReal) (mk : Fin 1024 → EReal) (c : Fin 512) : EReal :=
  Ideal.div (∑ j, ex q k (headOf c) j * mk j * v j c)
    (∑ j, ex q k (headOf c) j * mk j + small * ∑ j, ex q k (headOf c) j)

/-- A row through a weight matrix and a bias row. -/
def lin (x : Fin 512 → EReal) (w : Fin 512 → Fin 512 → EReal) (b : Fin 512 → EReal) (o : Fin 512) : EReal :=
  ∑ d, x d * w d o + b o

end Cert.Proof.Spec
end
-- ==== Proof.ValHeads.lean ====
/-
  What the attention body leaves in its windows, index by index: the eight heads side by side, through the output weights.
-/
module

public import proofs.«01_k».proof.Proof.KernelIdealAttn
public import proofs.«01_k».proof.Proof.Spec
public import Idealize.ShloMosaic.Lib.Pipeline.ValueKit.Tiles

@[expose] public section

noncomputable section

namespace Cert.Proof.Val

open Cert.KernelIdeal Cert.KernelIdeal.Gen
open Idealize.ShloMosaic
open Cert.Proof.Spec Cert.Proof.OfKernelIdeal.Attn

theorem ld_cols (o : ℕ) (hin : ∀ a, (![0, o] : Fin 2 → ℕ) a + S1024x64.size a ≤ S1024x512.size a) (kk : FVec Ideal S1024x512 .f32) (j : Fin 1024) (u : Fin 64)
    (h : o + u.val < 512) :
    (View.ld (Val := Elt Ideal) (e' := .f32) kk (Rect.unit (s := S1024x512) ![0, o] S1024x64.size hin) : S1024x64.Idx → EReal) (ix2 j u) = kk (ix2 j ⟨o + u.val, h⟩) :=
  View.ld_unit_apply_of _ _ _ _ _ _ (fun a => by fin_cases a <;> simp [ix2])

theorem keys_at (x0 : FVec Ideal S1x1024x512 .f32) (x5 : FVec Ideal S512x512 .f32) (x6 : FVec Ideal S1x512 .f32) (n : Fin 1024) (o : Fin 512) :
    (keys (F := Ideal) x0 x5 x6 : S1024x512.Idx → EReal) (ix2 n o) = lin (fun d => x0 (ix3 0 n d)) (fun d o => x5 (ix2 d o)) (fun o => x6 (ix2 0 o)) o := by
  unfold keys
  rw [View.canon_unit_zero (by decide), View.ld_unit_zero (by decide), View.ld_unit_zero (by decide), View.ld_unit_zero (by decide)]
  pointwise [k3_pay4, k3_pay3, lin]

theorem vals_at (x0 : FVec Ideal S1x1024x512 .f32) (x5 : FVec Ideal S512x512 .f32) (x6 : FVec Ideal S1x512 .f32) (n : Fin 1024) (o : Fin 512) :
    (vals (F := Ideal) x0 x5 x6 : S1024x512.Idx → EReal) (ix2 n o) = lin (fun d => x0 (ix3 0 n d)) (fun d o => x5 (ix2 d o)) (fun o => x6 (ix2 0 o)) o := by
  unfold vals
  rw [View.canon_unit_zero (by decide), View.ld_unit_zero (by decide), View.ld_unit_zero (by decide), View.ld_unit_zero (by decide)]
  pointwise [k3_pay5, k3_pay3, lin]

theorem ms_at (x1 : FVec Ideal S128x1024 .f32) (x2 : FVec Ideal S1x1x1024 .f32) (n : Fin 128) (j : Fin 1024) :
    (ms (F := Ideal) x1 x2 : S128x1024.Idx → EReal) (ix2 n j) = max (ind (0 < x1 (ix2 n j))) (x2 (ix3 0 0 j)) := by
  unfold ms
  rw [View.ld_unit_zero (by decide), View.ld_unit_zero (by decide)]
  pointwise [k3_pay7]
  rw [ind_word]

/-- One head, in the body's own terms. -/
def head (o : ℕ) (ho : o + 64 ≤ 512) (q : FVec Ideal S128x512 .f32) (mk : FVec Ideal S128x1024 .f32) (k v : FVec Ideal S1024x64 .f32) (n : Fin 128) (t : Fin 64) : EReal :=
  let s := fun j : Fin 1024 => (∑ u : Fin 64, q (ix2 n ⟨o + u.val, by omega⟩) * k (ix2 j u)) * scale
  let p := Finset.fold max bottom s Finset.univ
  Ideal.div (∑ j, Ideal.exp (s j - p) * mk (ix2 n j) * v (ix2 j t)) (∑ j, Ideal.exp (s j - p) * mk (ix2 n j) + small * ∑ j, Ideal.exp (s j - p))

variable (q : FVec Ideal S128x512 .f32) (mk : FVec Ideal S128x1024 .f32) (k v : FVec Ideal S1024x64 .f32) (n : Fin 128) (t : Fin 64)

theorem head1 : (k3_pay10 (F := Ideal) q mk k v : S128x64.Idx → EReal) (ix2 n t) = head 64 (by decide) q mk k v n t := by
  pointwise [k3_pay10, head]
theorem head2 : (k3_pay12 (F := Ideal) mk (k3_pay11 q) k v : S128x64.Idx → EReal) (ix2 n t) = head 128 (by decide) q mk k v n t := by
  pointwise [k3_pay12, k3_pay11, head]
theorem head3 : (k3_pay13 (F := Ideal) q mk k v : S128x64.Idx → EReal) (ix2 n t) = head 192 (by decide) q mk k v n t := by
  pointwise [k3_pay13, head]
theorem head4 : (k3_pay14 (F := Ideal) q mk k v : S128x64.Idx → EReal) (ix2 n t) = head 256 (by decide) q mk k v n t := by
  pointwise [k3_pay14, head]
theorem head5 : (k3_pay20 (F := Ideal) (k3_pay16 q k) (k3_pay18 q mk k) (k3_pay19 q mk k v) : S128x64.Idx → EReal) (ix2 n t) = head 320 (by decide) q mk k v n t := by
  pointwise [k3_pay20, k3_pay19, k3_pay18, k3_pay17, k3_pay16, k3_pay15, head]
theorem head6 : (k3_pay21 (F := Ideal) q mk k v : S128x64.Idx → EReal) (ix2 n t) = head 384 (by decide) q mk k v n t := by
  pointwise [k3_pay21, head]
theorem head0 (x : FVec Ideal S1x128x512 .f32) (w : FVec Ideal S512x512 .f32) (b : FVec Ideal S1x512 .f32) :
    (k3_pay9 (F := Ideal) mk v (k3_pay8 x w b k) : S128x64.Idx → EReal) (ix2 n t) = head 0 (by decide) (k3_pay6 x w b) mk k v n t := by
  pointwise [k3_pay9, k3_pay8, head]

/-- The output rows from the eight heads. -/
theorem out_at (p0 p1 p2 p3 p4 p5 p6 : FVec Ideal S128x64 .f32) (w : FVec Ideal S512x512 .f32) (b : FVec Ideal S1x512 .f32) (o : Fin 512)
    (P : Fin 512 → EReal)
    (h0 : ∀ c (h : c < 64), p0 (ix2 n ⟨c, h⟩) = P ⟨c, by omega⟩) (h1 : ∀ c (h : c < 64), p1 (ix2 n ⟨c, h⟩) = P ⟨64 + c, by omega⟩)
    (h2 : ∀ c (h : c < 64), p2 (ix2 n ⟨c, h⟩) = P ⟨128 + c, by omega⟩) (h3 : ∀ c (h : c < 64), p3 (ix2 n ⟨c, h⟩) = P ⟨192 + c, by omega⟩)
    (h4 : ∀ c (h : c < 64), p4 (ix2 n ⟨c, h⟩) = P ⟨256 + c, by omega⟩) (h5 : ∀ c (h : c < 64), p5 (ix2 n ⟨c, h⟩) = P ⟨320 + c, by omega⟩)
    (h6 : ∀ c (h : c < 64), p6 (ix2 n ⟨c, h⟩) = P ⟨384 + c, by omega⟩) (h7 : ∀ c (h : c < 64), head 448 (by decide) q mk k v n ⟨c, h⟩ = P ⟨448 + c, by omega⟩) :
    (k3_pay1 (F := Ideal) mk p0 p1 p2 p3 p4 p5 p6 v (k3_pay22 q k) (k3_pay23 q k) w b : S1x128x512.Idx → EReal) (ix3 (0 : Fin 1) n o)
      = ∑ c, P c * w (ix2 c o) + b (ix2 0 o) := by
  pointwise [k3_pay1, k3_pay22, k3_pay23]
  refine congrArg (· + _) (Finset.sum_congr rfl fun c _ => congrArg (· * _) ?_)
  have hP : ∀ a (ha : a < 512), a = c.val → P ⟨a, ha⟩ = P c := fun a ha e => congrArg P (Fin.ext e)
  by_cases a0 : c.val < 64
  · rw [dif_pos a0]; exact (h0 _ a0).trans (hP _ _ (by omega))
  rw [dif_neg a0]
  by_cases a1 : c.val - 64 < 64
  · rw [dif_pos a1]; exact (h1 _ a1).trans (hP _ _ (by omega))
  rw [dif_neg a1]
  by_cases a2 : c.val - 64 - 64 < 64
  · rw [dif_pos a2]; exact (h2 _ a2).trans (hP _ _ (by omega))
  rw [dif_neg a2]
  by_cases a3 : c.val - 64 - 64 - 64 < 64
  · rw [dif_pos a3]; exact (h3 _ a3).trans (hP _ _ (by omega))
  rw [dif_neg a3]
  by_cases a4 : c.val - 64 - 64 - 64 - 64 < 64
  · rw [dif_pos a4]; exact (h4 _ a4).trans (hP _ _ (by omega))
  rw [dif_neg a4]
  by_cases a5 : c.val - 64 - 64 - 64 - 64 - 64 < 64
  · rw [dif_pos a5]; exact (h5 _ a5).trans (hP _ _ (by omega))
  rw [dif_neg a5]
  by_cases a6 : c.val - 64 - 64 - 64 - 64 - 64 - 64 < 64
  · rw [dif_pos a6]; exact (h6 _ a6).trans (hP _ _ (by omega))
  rw [dif_neg a6]
  exact (h7 _ (by omega)).trans (hP _ _ (by omega))

/-- A head of the body is the attention at its columns. -/
theorem head_eq (h : Fin 8) (kk vv : FVec Ideal S1024x512 .f32) (ho : 64 * h.val + 64 ≤ 512) (hk hv : _) :
    head (64 * h.val) ho q mk (View.ld (Val := Elt Ideal) (e' := .f32) kk (Rect.unit (s := S1024x512) ![0, 64 * h.val] S1024x64.size hk))
        (View.ld (Val := Elt Ideal) (e' := .f32) vv (Rect.unit (s := S1024x512) ![0, 64 * h.val] S1024x64.size hv)) n t
      = attend (fun c => q (ix2 n c)) (fun j c => kk (ix2 j c)) (fun j c => vv (ix2 j c)) (fun j => mk (ix2 n j)) (col h t) := by
  have hh : headOf (col h t) = h := Fin.ext (by show (64 * h.val + t.val) / 64 = h.val; omega)
  unfold attend
  rw [hh]
  have e1 : ∀ (j : Fin 1024) (u : Fin 64), (View.ld (Val := Elt Ideal) (e' := .f32) kk (Rect.unit (s := S1024x512) ![0, 64 * h.val] S1024x64.size hk) : S1024x64.Idx → EReal) (ix2 j u) = kk (ix2 j (col h u)) :=
    fun j u => ld_cols _ hk kk j u (by omega)
  have e2 : ∀ (j : Fin 1024) (u : Fin 64), (View.ld (Val := Elt Ideal) (e' := .f32) vv (Rect.unit (s := S1024x512) ![0, 64 * h.val] S1024x64.size hv) : S1024x64.Idx → EReal) (ix2 j u) = vv (ix2 j (col h u)) :=
    fun j u => ld_cols _ hv vv j u (by omega)
  unfold head ex peak
  simp only [e1, e2]
  rfl

/-- What the body leaves in its first output window. -/
theorem outv_at (i : grid3.Coords) (x0 : FVec Ideal S1x1024x512 .f32) (x1 : FVec Ideal S128x1024 .f32) (x2 : FVec Ideal S1x1x1024 .f32) (x3 : FVec Ideal S512x512 .f32) (x4 : FVec Ideal S1x512 .f32)
    (x9 : FVec Ideal S512x512 .f32) (x10 : FVec Ideal S1x512 .f32) (kk vv : FVec Ideal S1024x512 .f32) (n : Fin 128) (o : Fin 512) :
    (outv (F := Ideal) i x0 x1 x2 x3 x4 x9 x10 kk vv : S1x128x512.Idx → EReal) (ix3 0 n o)
      = ∑ c, attend (fun c => (qs (F := Ideal) i x0 x3 x4 : S128x512.Idx → EReal) (ix2 n c)) (fun j c => kk (ix2 j c)) (fun j c => vv (ix2 j c))
          (fun j => (ms (F := Ideal) x1 x2 : S128x1024.Idx → EReal) (ix2 n j)) c * x9 (ix2 c o) + x10 (ix2 0 o) := by
  unfold outv
  have e9 : View.ld (Val := Elt Ideal) (e' := .f32) x9 r_9 = x9 := View.ld_unit_zero (by decide) _ _
  have e10 : View.ld (Val := Elt Ideal) (e' := .f32) x10 r_10 = x10 := View.ld_unit_zero (by decide) _ _
  rw [View.canon_unit_zero (by decide), e9, e10]
  refine out_at _ _ _ _ _ _ _ _ _ _ _ _ _ _ _ _ (fun c h => ?_) (fun c h => ?_) (fun c h => ?_) (fun c h => ?_) (fun c h => ?_) (fun c h => ?_) (fun c h => ?_) (fun c h => ?_)
  · rw [head0]
    exact (head_eq _ _ n ⟨c, h⟩ 0 kk vv (by decide) _ _).trans (congrArg _ (Fin.ext (by show 64 * 0 + c = c; omega)))
  · rw [head1]
    exact head_eq _ _ n ⟨c, h⟩ 1 kk vv (by decide) _ _
  · rw [head2]
    exact head_eq _ _ n ⟨c, h⟩ 2 kk vv (by decide) _ _
  · rw [head3]
    exact head_eq _ _ n ⟨c, h⟩ 3 kk vv (by decide) _ _
  · rw [head4]
    exact head_eq _ _ n ⟨c, h⟩ 4 kk vv (by decide) _ _
  · rw [head5]
    exact head_eq _ _ n ⟨c, h⟩ 5 kk vv (by decide) _ _
  · rw [head6]
    exact head_eq _ _ n ⟨c, h⟩ 6 kk vv (by decide) _ _
  · exact head_eq _ _ n ⟨c, h⟩ 7 kk vv (by decide) _ _

/-- What it leaves in the second. -/
theorem maskv_at (x1 : FVec Ideal S128x1024 .f32) (x2 : FVec Ideal S1x1x1024 .f32) (h : Fin 8) (n : Fin 128) (j : Fin 1024) :
    (maskv (F := Ideal) x1 x2 : S1x8x128x1024.Idx → EReal) (ix4 0 h n j) = max (ind (0 < x1 (ix2 n j))) (x2 (ix3 0 0 j)) := by
  unfold maskv
  rw [View.canon_unit_zero (by decide), ← ms_at]
  pointwise [k3_pay2]

/-- The queries of the point's rows. -/
theorem qs_at (i : grid3.Coords) (x0 : FVec Ideal S1x1024x512 .f32) (x3 : FVec Ideal S512x512 .f32) (x4 : FVec Ideal S1x512 .f32) (n : Fin 128) (o : Fin 512) :
    (qs (F := Ideal) i x0 x3 x4 : S128x512.Idx → EReal) (ix2 n o)
      = lin (fun d => x0 (ix3 0 ⟨128 * (i 1).val + n.val, by have : (i 1).val < 8 := (i 1).isLt; omega⟩ d)) (fun d o => x3 (ix2 d o)) (fun o => x4 (ix2 0 o)) o := by
  unfold qs
  have e3 : View.ld (Val := Elt Ideal) (e' := .f32) x3 r_3 = x3 := View.ld_unit_zero (by decide) _ _
  have e4 : View.ld (Val := Elt Ideal) (e' := .f32) x4 r_4 = x4 := View.ld_unit_zero (by decide) _ _
  rw [e3, e4]
  have e : ∀ d : Fin 512, (View.ld (Val := Elt Ideal) (e' := .f32) x0 (r_q i) : S1x128x512.Idx → EReal) (ix3 0 n d) = x0 (ix3 0 ⟨128 * (i 1).val + n.val, by have : (i 1).val < 8 := (i 1).isLt; omega⟩ d) :=
    fun d => View.ld_unit_apply_of _ _ _ _ _ _ (fun a => by
      refine Eq.trans ?_ (congrArg (· + ((ix3 (0 : Fin 1) n d : S1x128x512.Idx) a).val) (congrFun (k3_off1_eq i) a).symm)
      fin_cases a <;> simp [ix3])
  have key : ∀ y : FVec Ideal S1x128x512 .f32, (k3_pay6 (F := Ideal) y x3 x4 : S128x512.Idx → EReal) (ix2 n o)
      = lin (fun d => y (ix3 0 n d)) (fun d o => x3 (ix2 d o)) (fun o => x4 (ix2 0 o)) o := fun y => by pointwise [k3_pay6, lin]
  exact (key _).trans (congrArg (fun r => lin r (fun d o => x3 (ix2 d o)) (fun o => x4 (ix2 0 o)) o) (funext e))

end Cert.Proof.Val
end
-- ==== Proof.Rank.lean ====
/-
  A column is among the first 512 of the columns sorted by score exactly when fewer than 512 columns come before it: a column
  comes before another when its score is larger, or the same and its place is earlier.
-/
module

public import proofs.«01_k».proof.Proof.Spec
public import Idealize.ShloMosaic.Lib.SortFacts

@[expose] public section

noncomputable section

namespace Cert.Proof.Rank

open Idealize.ShloMosaic

variable {n : ℕ} (s : Fin n → EReal)

/-- One column comes before another. -/
def Ahead (i j : Fin n) : Prop := s j < s i ∨ (s i = s j ∧ i < j)

/-- The comparison a sort by score makes. -/
def larger (i j : Fin n) : Bool := decide (s j < s i)

theorem ahead_irrefl (i : Fin n) : ¬ Ahead s i i := fun h => h.elim (lt_irrefl _) fun h => lt_irrefl _ h.2
theorem ahead_asymm {i j : Fin n} (h : Ahead s i j) : ¬ Ahead s j i := fun h' => by
  rcases h with h | ⟨e, h⟩ <;> rcases h' with h' | ⟨e', h'⟩
  · exact lt_asymm h h'
  · exact absurd (e' ▸ h) (lt_irrefl _)
  · exact absurd (e ▸ h') (lt_irrefl _)
  · exact lt_asymm h h'

theorem insert_ahead (a : Fin n) : ∀ l : List (Fin n), (∀ b ∈ l, a < b) → l.Pairwise (Ahead s) → (insertBefore (larger s) a l).Pairwise (Ahead s)
  | [], _, _ => List.pairwise_singleton _ _
  | b :: l, hl, hp => by
    have hp' := List.pairwise_cons.1 hp
    unfold insertBefore
    split
    · rename_i h
      refine List.pairwise_cons.2 ⟨fun x hx => ?_, insert_ahead a l (fun b hb => hl b (List.mem_cons_of_mem _ hb)) hp'.2⟩
      rcases List.mem_cons.1 ((perm_insertBefore (larger s) a l).mem_iff.1 hx) with rfl | hx
      · exact Or.inl (of_decide_eq_true h)
      · exact hp'.1 x hx
    · rename_i h
      have h' : ¬ s a < s b := fun h0 => h (decide_eq_true h0)
      have key : ∀ x ∈ b :: l, Ahead s a x := fun x hx => by
        have hxb : s x ≤ s b := by
          rcases List.mem_cons.1 hx with rfl | hx
          · exact le_rfl
          · rcases hp'.1 x hx with h1 | ⟨h1, -⟩
            · exact h1.le
            · exact h1.ge
        rcases lt_or_eq_of_le (hxb.trans (not_lt.1 h')) with h2 | h2
        · exact Or.inl h2
        · exact Or.inr ⟨h2.symm, hl x hx⟩
      exact List.pairwise_cons.2 ⟨key, hp⟩

theorem sort_ahead : ∀ l : List (Fin n), l.Pairwise (· < ·) → (stableSort (larger s) l).Pairwise (Ahead s)
  | [], _ => List.Pairwise.nil
  | a :: l, h => insert_ahead s a _ (fun b hb => (List.pairwise_cons.1 h).1 b ((perm_stableSort (larger s) l).mem_iff.1 hb)) (sort_ahead l (List.pairwise_cons.1 h).2)

theorem sorted_ahead (p q : Fin n) (h : p < q) : Ahead s (sortedFrom (larger s) p) (sortedFrom (larger s) q) := by
  have hp := List.pairwise_iff_get.mp (sort_ahead s (List.finRange n) (List.pairwise_lt_finRange n))
  unfold sortedFrom
  exact hp _ _ h

open Classical in
/-- How many columns come before one. -/
def rank (j : Fin n) : ℕ := (Finset.univ.filter fun i => Ahead s i j).card

theorem rank_sorted (q : Fin n) : rank s (sortedFrom (larger s) q) = q.val := by
  classical
  have e : (Finset.univ.filter fun i => Ahead s i (sortedFrom (larger s) q)) = (Finset.Iio q).image (sortedFrom (larger s)) := by
    ext i
    simp only [Finset.mem_filter, Finset.mem_univ, true_and, Finset.mem_image, Finset.mem_Iio]
    constructor
    · intro h
      obtain ⟨p, rfl⟩ := sortedFrom_surjective (larger s) i
      refine ⟨p, ?_, rfl⟩
      rcases lt_trichotomy p q with h1 | h1 | h1
      · exact h1
      · subst h1; exact absurd h (ahead_irrefl s _)
      · exact absurd h (ahead_asymm s (sorted_ahead s q p h1))
    · rintro ⟨p, hp, rfl⟩
      exact sorted_ahead s p q hp
  unfold rank
  rw [show (Finset.univ.filter fun i => Ahead s i (sortedFrom (larger s) q)) = _ from e, Finset.card_image_of_injective _ (sortedFrom_injective _), Fin.card_Iio]

/-- The first `k` of the sorted columns are those of rank below `k`. -/
theorem mem_first (k : ℕ) (hk : k ≤ n) (j : Fin n) : (∃ p : Fin k, sortedFrom (larger s) (p.castLE hk) = j) ↔ rank s j < k := by
  constructor
  · rintro ⟨p, rfl⟩
    rw [rank_sorted]
    exact p.isLt
  · intro h
    obtain ⟨q, rfl⟩ := sortedFrom_surjective (larger s) j
    rw [rank_sorted] at h
    exact ⟨⟨q.val, h⟩, rfl⟩

/-- A finite number added to every score changes no order. -/
theorem rank_shift (b : ℝ) (j : Fin n) : rank (fun i => s i + (b : EReal)) j = rank s j := by
  have hlt : ∀ x y : EReal, x + (b : EReal) < y + (b : EReal) ↔ x < y := fun x y => by
    constructor
    · intro h
      exact lt_of_not_ge fun h' => absurd h (not_lt.2 (add_le_add h' le_rfl))
    · intro h
      exact EReal.add_lt_add_right_coe h b
  have heq : ∀ x y : EReal, x + (b : EReal) = y + (b : EReal) ↔ x = y := fun x y => by
    rw [le_antisymm_iff, le_antisymm_iff (a := x), ← not_lt, ← not_lt, hlt, hlt, not_lt, not_lt]
  unfold rank Ahead
  simp only [hlt, heq]
  congr 1
  ext i
  simp only [Finset.mem_filter]

open Spec in
/-- The rank, counted in the extended reals by two indicators for each column. -/
theorem sum_rank (j : Fin n) [∀ i, Decidable (s j < s i)] [∀ i, Decidable (s i = s j ∧ i < j)] :
    ∑ i, (ind (s j < s i) + ind (s i = s j ∧ i < j)) = ((rank s j : ℝ) : EReal) := by
  classical
  have e : ∀ i, ind (s j < s i) + ind (s i = s j ∧ i < j) = if Ahead s i j then (1 : EReal) else 0 := fun i => by
    unfold ind Ahead
    by_cases h1 : s j < s i
    · have h2 : ¬ (s i = s j ∧ i < j) := fun h => absurd h.1 h1.ne'
      simp [h1, h2]
    · simp [h1]
  rw [Finset.sum_congr rfl fun i _ => e i, ← Finset.sum_filter, Finset.sum_const]
  unfold rank
  rw [nsmul_one]
  congr 1

end Cert.Proof.Rank
end
-- ==== Proof.Algebra.lean ====
/-
  The equations over the extended reals that join the kernel's arrangement to the reference's.
-/
module

public import proofs.«01_k».proof.Proof.Spec

@[expose] public section

noncomputable section

namespace Cert.Proof.Spec

open Idealize.ShloMosaic

theorem bottom_eq : bottom = ⊥ := by simp [bottom, Ideal.ofBits, Ideal.ieee]
theorem eight_eq : Ideal.ofBits .f32 0x41000000#32 = ((8 : ℝ) : EReal) := by
  simp [Ideal.ofBits, Ideal.ieee]
  norm_num
  rw [← EReal.coe_mul]
  norm_num
theorem scale_eq : scale = ((1 / 8 : ℝ) : EReal) := by
  simp [scale, Ideal.ofBits, Ideal.ieee]
  norm_num
  rw [← EReal.coe_mul]
  norm_num
theorem small_eq : ∃ r : ℝ, 0 < r ∧ small = (r : EReal) := by
  refine ⟨_, ?_, rfl⟩
  norm_num [small]
  rw [if_neg (by decide)]
  positivity
theorem half_eq : Ideal.ofBits .f32 1140850688#32 = ((512 : ℝ) : EReal) := by
  simp [Ideal.ofBits, Ideal.ieee]
  norm_num
  rw [← EReal.coe_mul]
  norm_num

/-- A division by eight is a product with an eighth. -/
theorem div_eight (x : EReal) : Ideal.div x (Ideal.ofBits .f32 0x41000000#32) = x * scale := by
  rw [eight_eq, scale_eq]
  unfold Ideal.div
  rw [if_neg (by norm_num)]
  congr 1
  rw [← EReal.coe_inv]
  norm_num

/-- The numbers that are not infinite. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Real'.sum {ι : Type} (s : Finset ι) (f : ι → EReal) (h : ∀ i, Real' (f i)) : Real' (∑ i ∈ s, f i) := by
  choose g hg using h
  exact ⟨∑ i ∈ s, g i, (Finset.sum_congr rfl fun i _ => hg i).trans (coe_sum s g).symm⟩

theorem lin_real {x : Fin 512 → EReal} {w : Fin 512 → Fin 512 → EReal} {b : Fin 512 → EReal} (hx : ∀ d, Real' (x d)) (hw : ∀ d o, Real' (w d o)) (hb : ∀ o, Real' (b o)) (o : Fin 512) :
    Real' (lin x w b o) := (Real'.sum _ _ fun d => (hx d).mul (hw d o)).add (hb o)

theorem logit_real {q : Fin 512 → EReal} {k : Fin 1024 → Fin 512 → EReal} (hq : ∀ d, Real' (q d)) (hk : ∀ j d, Real' (k j d)) (h : Fin 8) (j : Fin 1024) :
    Real' (logit q k h j) := (Real'.sum _ _ fun u => (hq _).mul (hk j _)).mul ⟨_, scale_eq⟩

/-- A maximum of finitely many numbers, at least one, is one of them. -/
theorem fold_max_mem {n : ℕ} (S : Fin (n + 1) → ℝ) : ∃ i, Finset.fold max (⊥ : EReal) (fun j => (S j : EReal)) Finset.univ = (S i : EReal) ∧ ∀ j, S j ≤ S i := by
  obtain ⟨i, -, hi⟩ := Finset.exists_max_image (Finset.univ : Finset (Fin (n + 1))) S ⟨0, Finset.mem_univ _⟩
  refine ⟨i, le_antisymm ?_ ?_, fun j => hi j (Finset.mem_univ j)⟩
  · exact (Finset.fold_max_le _).2 ⟨bot_le, fun j hj => EReal.coe_le_coe_iff.2 (hi j hj)⟩
  · exact (Finset.le_fold_max _).2 (Or.inr ⟨i, Finset.mem_univ i, le_refl _⟩)

/-- A positive real factor comes out of a sum of extended reals. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (EReal.coe_nonneg.2 hc) (EReal.coe_ne_top c), mul_comm (c : EReal), mul_comm (c : EReal)]

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The two normalisations agree: masked exponentials over their own sum, with or without dividing by the whole sum first. -/
theorem normalise {n : ℕ} (S k : Fin (n + 1) → ℝ) (hk : ∀ j, 0 ≤ k j) (v e : Fin (n + 1) → EReal)
    (he : ∀ j, e j = Ideal.exp ((S j : EReal) - Finset.fold max (⊥ : EReal) (fun j => (S j : EReal)) Finset.univ)) :
    Ideal.div (∑ j, e j * (k j : EReal) * v j) (∑ j, e j * (k j : EReal) + small * ∑ j, e j)
      = ∑ j, v j * Ideal.div (Ideal.div (e j) (∑ j, e j) * (k j : EReal)) (∑ j, Ideal.div (e j) (∑ j, e j) * (k j : EReal) + small) := by
  obtain ⟨i, hi, hmax⟩ := fold_max_mem S
  obtain ⟨ε, hε, hs⟩ := small_eq
  set r : Fin (n + 1) → ℝ := fun j => Real.exp (S j - S i) with hr
  have her : ∀ j, e j = (r j : EReal) := fun j => by
    rw [he j, hi, ← EReal.coe_sub]; rfl
  have hrpos : ∀ j, 0 < r j := fun j => Real.exp_pos _
  set Z : ℝ := ∑ j, r j with hZ
  have hZpos : 0 < Z := Finset.sum_pos (fun j _ => hrpos j) ⟨0, Finset.mem_univ _⟩
  set M : ℝ := ∑ j, r j * k j with hM
  have hM0 : 0 ≤ M := Finset.sum_nonneg fun j _ => mul_nonneg (hrpos j).le (hk j)
  have hD : 0 < M + ε * Z := by positivity
  have hsum : ∑ j, e j = (Z : EReal) := (Finset.sum_congr rfl fun j _ => her j).trans (coe_sum _ _).symm
  have hd : ∀ j, Ideal.div (e j) (∑ j, e j) * (k j : EReal) = ((r j / Z * k j : ℝ) : EReal) := fun j => by
    rw [hsum, her, div_real _ _ hZpos.ne', EReal.coe_mul]
  have hden : ∑ j, Ideal.div (e j) (∑ j, e j) * (k j : EReal) + small = ((M / Z + ε : ℝ) : EReal) := by
    rw [Finset.sum_congr rfl fun j _ => hd j, ← coe_sum, hs, ← EReal.coe_add, hM, Finset.sum_div]
    congr 2
    exact Finset.sum_congr rfl fun j _ => by ring
  have hden' : 0 < M / Z + ε := by positivity
  have hbot : ∑ j, e j * (k j : EReal) + small * ∑ j, e j = ((M + ε * Z : ℝ) : EReal) := by
    rw [hsum, hs, Finset.sum_congr rfl fun j _ => show e j * (k j : EReal) = ((r j * k j : ℝ) : EReal) by rw [her, EReal.coe_mul], ← coe_sum, EReal.coe_add, EReal.coe_mul]
  rw [hbot, hden]
  unfold Ideal.div
  rw [if_neg (by exact_mod_cast hD.ne'), ← EReal.coe_inv, sum_mul_real _ _ _ (inv_nonneg.2 hD.le)]
  refine Finset.sum_congr rfl fun j _ => ?_
  have := hd j
  unfold Ideal.div at this
  rw [this, if_neg (by exact_mod_cast hden'.ne'), ← EReal.coe_inv, ← EReal.coe_mul, her, ← EReal.coe_mul, mul_comm _ (v j), mul_assoc, ← EReal.coe_mul]
  congr 2
  have := hZpos.ne'
  have := hD.ne'
  have := hden'.ne'
  field_simp

end Cert.Proof.Spec
end
-- ==== Proof.Closed.lean ====
/-
  The function both programs compute, in closed form, and the laws that join the two ways of computing it.
-/
module

public import proofs.«01_k».proof.Proof.Spec
public import proofs.«01_k».proof.Proof.Algebra
public import proofs.«01_k».proof.Proof.Rank

@[expose] public section

noncomputable section

namespace Cert.Proof.Spec

open Idealize.ShloMosaic

variable (r c : Fin 16384 → Fin 1024)

/-- The number of edges from one node to another. -/
def edgeCount (n k : Fin 1024) : EReal := ∑ e, if r e = n ∧ c e = k then 1 else 0

/-- The score of a node but for the constant that every score has: the features it receives, through one hidden layer. -/
def nodeScore (X : Fin 1024 → Fin 512 → EReal) (W1 : Fin 512 → Fin 256 → EReal) (b1 w2 : Fin 256 → EReal) (n : Fin 1024) : EReal :=
  ∑ j, w2 j * max (∑ d, (∑ k, edgeCount r c n k * X k d) * W1 d j + b1 j) 0

/-- A node sees another along an edge, or when that other is one of the 512 of largest score. -/
def sees (X : Fin 1024 → Fin 512 → EReal) (W1 : Fin 512 → Fin 256 → EReal) (b1 w2 : Fin 256 → EReal) (n j : Fin 1024) : EReal :=
  max (ind (0 < edgeCount r c n j)) (ind (Rank.rank (nodeScore r c X W1 b1 w2) j < 512))

theorem ind_congr {p q : Prop} [Decidable p] [Decidable q] (h : p ↔ q) : ind p = ind q := by
  unfold ind
  by_cases hp : p
  · rw [if_pos hp, if_pos (h.1 hp)]
  · rw [if_neg hp, if_neg (fun hq => hp (h.2 hq))]

theorem ind_real (p : Prop) [Decidable p] : ∃ t : ℝ, 0 ≤ t ∧ ind p = (t : EReal) := by
  unfold ind
  by_cases h : p
  · exact ⟨1, zero_le_one, (if_pos h).trans EReal.coe_one.symm⟩
  · exact ⟨0, le_refl _, (if_neg h).trans EReal.coe_zero.symm⟩

theorem sees_real (X : Fin 1024 → Fin 512 → EReal) (W1 : Fin 512 → Fin 256 → EReal) (b1 w2 : Fin 256 → EReal) (n j : Fin 1024) :
    ∃ t : ℝ, 0 ≤ t ∧ sees r c X W1 b1 w2 n j = (t : EReal) := by
  unfold sees
  rcases max_choice (ind (0 < edgeCount r c n j)) (ind (Rank.rank (nodeScore r c X W1 b1 w2) j < 512)) with h | h
  · rw [h]; exact ind_real _
  · rw [h]; exact ind_real _

theorem term_nonneg (n k : Fin 1024) (e : Fin 16384) : (0 : EReal) ≤ if r e = n ∧ c e = k then 1 else 0 := by
  by_cases h : r e = n ∧ c e = k
  · rw [if_pos h]; exact zero_le_one
  · rw [if_neg h]

/-- The count is positive when there is an edge. -/
theorem edgeCount_pos (n k : Fin 1024) : 0 < edgeCount r c n k ↔ ∃ e, r e = n ∧ c e = k := by
  unfold edgeCount
  constructor
  · intro h
    by_contra hn
    rw [Finset.sum_eq_zero fun e _ => if_neg fun he => hn ⟨e, he⟩] at h
    exact lt_irrefl _ h
  · rintro ⟨e, he⟩
    refine lt_of_lt_of_le zero_lt_one (le_trans (le_of_eq ?_) (Finset.single_le_sum (f := fun e => if r e = n ∧ c e = k then (1 : EReal) else 0) (fun e _ => term_nonneg r c n k e) (Finset.mem_univ e)))
    exact (if_pos he).symm

theorem count_mul (s : Finset (Fin 16384)) (n k : Fin 1024) (y : EReal) :
    (∑ e ∈ s, if r e = n ∧ c e = k then (1 : EReal) else 0) * y = ∑ e ∈ s, if r e = n ∧ c e = k then y else 0 := by
  classical
  induction s using Finset.induction_on with
  | empty => rw [Finset.sum_empty, Finset.sum_empty, zero_mul]
  | insert a s ha ih =>
    rw [Finset.sum_insert ha, Finset.sum_insert ha, EReal.right_distrib_of_nonneg (term_nonneg r c n k a) (Finset.sum_nonneg fun e _ => term_nonneg r c n k e), ih]
    congr 1
    by_cases h : r a = n ∧ c a = k
    · rw [if_pos h, if_pos h, one_mul]
    · rw [if_neg h, if_neg h, zero_mul]

/-- The counts against the features add the features up along the edges. -/
theorem count_sum (n : Fin 1024) (f : Fin 1024 → EReal) : ∑ k, edgeCount r c n k * f k = ∑ e ∈ Finset.univ.filter (fun e => r e = n), f (c e) := by
  unfold edgeCount
  rw [Finset.sum_congr rfl fun k _ => count_mul r c Finset.univ n k (f k), Finset.sum_comm, Finset.sum_filter]
  refine Finset.sum_congr rfl fun e _ => ?_
  by_cases h : r e = n
  · rw [if_pos h]
    refine (Finset.sum_congr rfl fun k _ => if_congr (and_iff_right h) rfl rfl).trans ?_
    rw [Finset.sum_ite_eq, if_pos (Finset.mem_univ _)]
  · rw [if_neg h]
    exact Finset.sum_eq_zero fun k _ => if_neg fun hk => h hk.1

/-- One division at the end, or two on the way: the attention is the same. -/
theorem attend_eq {q : Fin 512 → EReal} {k : Fin 1024 → Fin 512 → EReal} (v : Fin 1024 → Fin 512 → EReal) {mk : Fin 1024 → EReal}
    (hq : ∀ u, Real' (q u)) (hk : ∀ j u, Real' (k j u)) (hm : ∀ j, ∃ t : ℝ, 0 ≤ t ∧ mk j = (t : EReal)) (u : Fin 512) :
    attend q k v mk u = ∑ j, v j u * Ideal.div (Ideal.div (ex q k (headOf u) j) (∑ j, ex q k (headOf u) j) * mk j)
      (∑ j, Ideal.div (ex q k (headOf u) j) (∑ j, ex q k (headOf u) j) * mk j + small) := by
  choose t ht hmt using hm
  choose S hS using logit_real hq hk (headOf u)
  have hp : peak q k (headOf u) = Finset.fold max (⊥ : EReal) (fun j => (S j : EReal)) Finset.univ := by
    unfold peak
    rw [bottom_eq]
    exact congrArg (fun f => Finset.fold max (⊥ : EReal) f Finset.univ) (funext hS)
  have h := normalise (n := 1023) S t ht (fun j => v j u) (fun j => ex q k (headOf u) j) (fun j => by
    show Ideal.exp (logit q k (headOf u) j - peak q k (headOf u)) = _
    rw [hp, hS j])
  have hmf : mk = fun j => (t j : EReal) := funext hmt
  subst hmf
  exact h

end Cert.Proof.Spec
end
-- ==== Proof.ValArr.lean ====
/-
  What the three TensorCore calls leave in their output arrays, index by index, from the arrays they read.
-/
module

public import proofs.«01_k».proof.Proof.ValHeads
public import proofs.«01_k».proof.Proof.Rank
public import proofs.«01_k».proof.Proof.Closed
public import proofs.«01_k».proof.Proof.KernelIdealTopo
public import proofs.«01_k».proof.Proof.KernelIdealColmask
public import proofs.«01_k».proof.Proof.KernelIdealAttn
public import Idealize.ShloMosaic.Lib.Pipeline.ValueKit

@[expose] public section

noncomputable section

namespace Cert.Proof.Val

open Cert.KernelIdeal Cert.KernelIdeal.Gen
open Idealize.ShloMosaic
open Cert.Proof.Spec Cert.Proof.OfKernelIdeal

variable (V : Dev nD → Valuation τ sig (Elt Ideal)) (c : Dev nD)

/-! ## The score call -/

/-- The score of node `n`: the hidden layer of what it receives, weighed. -/
def score (a : FVec Ideal S1024x1024 .f32) (x : FVec Ideal S4x1024x512 .f32) (w : FVec Ideal S512x256 .f32) (b w2 : FVec Ideal S1x256 .f32) (q : Fin 4) (n : Fin 1024) : EReal :=
  ∑ j : Fin 256, w2 (ix2 0 j) * max (∑ d : Fin 512, (∑ k : Fin 1024, a (ix2 n k) * x (ix3 q k d)) * w (ix2 d j) + b (ix2 0 j)) 0

theorem topo_pay (x0 : FVec Ideal S1024x1024 .f32) (x1 : FVec Ideal S1x1024x512 .f32) (x2 : FVec Ideal S512x256 .f32) (x3 x4 : FVec Ideal S1x256 .f32) (n : Fin 1024) :
    (Topo.outv (F := Ideal) x0 x1 x2 x3 x4 : S1x1x1024.Idx → EReal) (ix3 0 0 n)
      = ∑ j : Fin 256, x4 (ix2 0 j) * max (∑ d : Fin 512, (∑ k : Fin 1024, x0 (ix2 n k) * x1 (ix3 0 k d)) * x2 (ix2 d j) + x3 (ix2 0 j)) 0 := by
  unfold Topo.outv
  rw [View.canon_unit_zero (by decide), View.ld_unit_zero (by decide), View.ld_unit_zero (by decide), View.ld_unit_zero (by decide), View.ld_unit_zero (by decide), View.ld_unit_zero (by decide)]
  pointwise [k1_pay1]

theorem idx1 : ∀ t : Fin cfg1.N, win1_0.index t = ![0, 0] ∧ win1_1.index t = ![t.val, 0, 0] ∧ win1_2.index t = ![0, 0] ∧ win1_3.index t = ![0, 0]
    ∧ win1_4.index t = ![0, 0] ∧ win1_5.index t = ![t.val, 0, 0] :=
  (by decide +kernel : ∀ t : Fin grid1.N, _)

theorem topo_0 (t : Fin cfg1.N) : Topo.iblk V c 0 t = V c (Proc.devRef .tc main_v4) := by
  blk_ext! [Topo.iblk, idx1 t]
theorem topo_1 (t : Fin cfg1.N) (n : Fin 1024) (d : Fin 512) :
    (Topo.iblk V c 1 t : S1x1024x512.Idx → EReal) (ix3 0 n d) = (V c (Proc.devRef .tc main_arg0) : S4x1024x512.Idx → EReal) (ix3 ⟨t.val, t.isLt⟩ n d) := by
  blk_ext [Topo.iblk, idx1 t]

theorem topo_2 (t : Fin cfg1.N) : Topo.iblk V c 2 t = V c (Proc.devRef .tc main_v5) := by
  blk_ext! [Topo.iblk, idx1 t]
theorem topo_3 (t : Fin cfg1.N) : Topo.iblk V c 3 t = V c (Proc.devRef .tc main_v6) := by
  blk_ext! [Topo.iblk, idx1 t]
theorem topo_4 (t : Fin cfg1.N) : Topo.iblk V c 4 t = V c (Proc.devRef .tc main_arg12) := by
  blk_ext! [Topo.iblk, idx1 t]

theorem topo_arr : ((Topo.dat V c).arrAt 5 cfg1.N : S4x1x1024.Idx → EReal)
    = fun i => score (V c (Proc.devRef .tc main_v4)) (V c (Proc.devRef .tc main_arg0)) (V c (Proc.devRef .tc main_v5)) (V c (Proc.devRef .tc main_v6)) (V c (Proc.devRef .tc main_arg12)) (i 0) (i 2) := by
  refine (Topo.dat V c).arrAt_eq_of_covers 5 _ (by decide +kernel) fun t hf y => ?_
  blk_simp
  rw [Topo.after_5]
  obtain ⟨a, b, n, rfl⟩ : ∃ a b n, y = ix3 a b n := ⟨y 0, y 1, y 2, (ix3_eta y).symm⟩
  obtain rfl := Subsingleton.elim a 0
  obtain rfl := Subsingleton.elim b 0
  refine (topo_pay _ _ _ _ _ n).trans ?_
  have e0 : ((cfg1.win 5).blk t).view.emb (ix3 0 0 n) (0 : Fin 3) = (⟨t.val, t.isLt⟩ : Fin 4) := Fin.ext (by blk_simp [idx1 t]; rfl)
  have e2 : ((cfg1.win 5).blk t).view.emb (ix3 0 0 n) (2 : Fin 3) = (n : Fin 1024) := Fin.ext (by blk_simp [idx1 t])
  refine Eq.trans ?_ (congrArg₂ (score (V c (Proc.devRef .tc main_v4)) (V c (Proc.devRef .tc main_arg0)) (V c (Proc.devRef .tc main_v5)) (V c (Proc.devRef .tc main_v6)) (V c (Proc.devRef .tc main_arg12))) e0 e2).symm
  unfold score
  refine Finset.sum_congr rfl fun j _ => ?_
  refine congrArg₂ (· * ·) (congrFun (topo_4 V c t) _) (congrArg (max · 0) (congrArg₂ (· + ·) (Finset.sum_congr rfl fun d _ => ?_) (congrFun (topo_3 V c t) _)))
  refine congrArg₂ (· * ·) (Finset.sum_congr rfl fun k _ => ?_) (congrFun (topo_2 V c t) _)
  exact congrArg₂ (· * ·) (congrFun (topo_0 V c t) _) (topo_1 V c t k d)

/-! ## The rank call -/

theorem slt_word (i j : Fin 1024) : IntOp.cmpi .slt (BitVec.ofNat 32 i.val) (BitVec.ofNat 32 j.val) = BitVec.ofBool (decide (i < j)) := by
  have hi := i.isLt
  have hj := j.isLt
  refine congrArg BitVec.ofBool ?_
  rw [BitVec.slt_eq_decide]
  refine decide_eq_decide.2 ?_
  rw [BitVec.toInt_eq_toNat_cond, BitVec.toInt_eq_toNat_cond, BitVec.toNat_ofNat, BitVec.toNat_ofNat, Nat.mod_eq_of_lt (by omega), Nat.mod_eq_of_lt (by omega),
    if_pos (by omega), if_pos (by omega), Fin.lt_def]
  exact Int.ofNat_lt

theorem colmask_pay (x0 : FVec Ideal S1x1x1024 .f32) (x1 : FVec Ideal S1x1024x1 .f32) (h : ∀ i : Fin 1024, x1 (ix3 0 i 0) = x0 (ix3 0 0 i)) (n : Fin 1024) :
    (Colmask.outv (F := Ideal) x0 x1 : S1x1x1024.Idx → EReal) (ix3 0 0 n) = ind (Rank.rank (fun i : Fin 1024 => (x0 (ix3 0 0 i) : EReal)) n < 512) := by
  unfold Colmask.outv
  rw [View.canon_unit_zero (by decide), View.ld_unit_zero (by decide), View.ld_unit_zero (by decide)]
  pointwise [k2_pay1]
  rw [ind_word, half_eq]
  refine ind_congr ?_
  have e := Rank.sum_rank (fun i : Fin 1024 => (x0 (ix3 0 0 i) : EReal)) n
  have hs : ∀ i : Fin 1024, (FloatOps.sitofp (F := Ideal) .f32 (BitVec.setWidth 32 (BitVec.ofBool (decide (x0 (ix3 0 0 n) < x1 (ix3 0 i 0))))) : EReal)
        + FloatOps.sitofp (F := Ideal) .f32 (BitVec.setWidth 32 (IntOp.andi (BitVec.ofBool (decide (x1 (ix3 0 i 0) = x0 (ix3 0 0 n)))) (IntOp.cmpi .slt (BitVec.ofNat 32 i.val) (BitVec.ofNat 32 n.val))))
      = ind ((x0 (ix3 0 0 n) : EReal) < x0 (ix3 0 0 i)) + ind ((x0 (ix3 0 0 i) : EReal) = x0 (ix3 0 0 n) ∧ i < n) := fun i => by
    rw [h i, slt_word, WordCmp.andi_ofBool, ← Bool.decide_and, ind_word, ind_word]
  rw [Finset.sum_congr rfl fun i _ => hs i, e]
  exact_mod_cast Iff.rfl

theorem idx2 : ∀ t : Fin cfg2.N, win2_0.index t = ![t.val, 0, 0] ∧ win2_1.index t = ![t.val, 0, 0] ∧ win2_2.index t = ![t.val, 0, 0] :=
  (by decide +kernel : ∀ t : Fin grid2.N, _)

theorem colmask_0 (t : Fin cfg2.N) (n : Fin 1024) :
    (Colmask.iblk V c 0 t : S1x1x1024.Idx → EReal) (ix3 0 0 n) = (V c (Proc.devRef .tc main_v7) : S4x1x1024.Idx → EReal) (ix3 ⟨t.val, t.isLt⟩ 0 n) := by
  blk_ext [Colmask.iblk, idx2 t]
theorem colmask_1 (t : Fin cfg2.N) (n : Fin 1024) :
    (Colmask.iblk V c 1 t : S1x1024x1.Idx → EReal) (ix3 0 n 0) = (V c (Proc.devRef .tc main_v8) : S4x1024x1.Idx → EReal) (ix3 ⟨t.val, t.isLt⟩ n 0) := by
  blk_ext [Colmask.iblk, idx2 t]

/-- Whether node `n` of batch `q` is one of the 512 best. -/
def top (s : FVec Ideal S4x1x1024 .f32) (q : Fin 4) (n : Fin 1024) : EReal := ind (Rank.rank (fun i : Fin 1024 => (s (ix3 q 0 i) : EReal)) n < 512)

theorem colmask_arr (hc : ∀ (q : Fin 4) (n : Fin 1024), (V c (Proc.devRef .tc main_v8) : S4x1024x1.Idx → EReal) (ix3 q n 0) = (V c (Proc.devRef .tc main_v7) : S4x1x1024.Idx → EReal) (ix3 q 0 n)) :
    ((Colmask.dat V c).arrAt 2 cfg2.N : S4x1x1024.Idx → EReal) = fun i => top (V c (Proc.devRef .tc main_v7)) (i 0) (i 2) := by
  refine (Colmask.dat V c).arrAt_eq_of_covers 2 _ (by decide +kernel) fun t hf y => ?_
  blk_simp
  rw [Colmask.after_2]
  obtain ⟨a, b, n, rfl⟩ : ∃ a b n, y = ix3 a b n := ⟨y 0, y 1, y 2, (ix3_eta y).symm⟩
  obtain rfl := Subsingleton.elim a 0
  obtain rfl := Subsingleton.elim b 0
  refine (colmask_pay _ _ (fun i => (colmask_1 V c t i).trans ((hc _ i).trans (colmask_0 V c t i).symm)) n).trans ?_
  have e0 : ((cfg2.win 2).blk t).view.emb (ix3 0 0 n) (0 : Fin 3) = (⟨t.val, t.isLt⟩ : Fin 4) := Fin.ext (by blk_simp [idx2 t]; rfl)
  have e2 : ((cfg2.win 2).blk t).view.emb (ix3 0 0 n) (2 : Fin 3) = (n : Fin 1024) := Fin.ext (by blk_simp [idx2 t])
  refine Eq.trans ?_ (congrArg₂ (top (V c (Proc.devRef .tc main_v7))) e0 e2).symm
  unfold top
  exact congrArg (fun f : Fin 1024 → EReal => ind (Rank.rank f n < 512)) (funext fun i => colmask_0 V c t i)

/-! ## The attention call -/

theorem idx3 : ∀ t : Fin cfg3.N, win3_0.index t = ![t.val / 8, 0, 0] ∧ win3_1.index t = ![t.val % 8, 0] ∧ win3_2.index t = ![t.val / 8, 0, 0]
    ∧ win3_3.index t = ![0, 0] ∧ win3_4.index t = ![0, 0] ∧ win3_5.index t = ![0, 0] ∧ win3_6.index t = ![0, 0] ∧ win3_7.index t = ![0, 0] ∧ win3_8.index t = ![0, 0]
    ∧ win3_9.index t = ![0, 0] ∧ win3_10.index t = ![0, 0] ∧ win3_11.index t = ![t.val / 8, t.val % 8, 0] ∧ win3_12.index t = ![t.val / 8, 0, t.val % 8, 0]
    ∧ (grid3.coords t (1 : Fin 2)).val = t.val % 8 :=
  (by decide +kernel : ∀ t : Fin grid3.N, _)

/-- The batch a point works on, -/
def batch (t : Fin cfg3.N) : Fin 4 := ⟨t.val / 8, by have : t.val < 32 := t.isLt; omega⟩
/-- and the row `n` of its block. -/
def row (t : Fin cfg3.N) (n : Fin 128) : Fin 1024 := ⟨128 * (t.val % 8) + n.val, by have := n.isLt; omega⟩

theorem batch_base (t : Fin cfg3.N) : batch (Attn.base t) = batch t := Fin.ext (by show 8 * (t.val / 8) / 8 = t.val / 8; omega)

theorem attn_0 (t : Fin cfg3.N) (n : Fin 1024) (d : Fin 512) :
    (Attn.iblk V c 0 t : S1x1024x512.Idx → EReal) (ix3 0 n d) = (V c (Proc.devRef .tc main_arg0) : S4x1024x512.Idx → EReal) (ix3 (batch t) n d) := by
  blk_ext [Attn.iblk, batch, idx3 t]
theorem attn_1 (t : Fin cfg3.N) (n : Fin 128) (j : Fin 1024) :
    (Attn.iblk V c 1 t : S128x1024.Idx → EReal) (ix2 n j) = (V c (Proc.devRef .tc main_v4) : S1024x1024.Idx → EReal) (ix2 (row t n) j) := by
  blk_ext [Attn.iblk, row, idx3 t]
theorem attn_2 (t : Fin cfg3.N) (j : Fin 1024) :
    (Attn.iblk V c 2 t : S1x1x1024.Idx → EReal) (ix3 0 0 j) = (V c (Proc.devRef .tc main_v9) : S4x1x1024.Idx → EReal) (ix3 (batch t) 0 j) := by
  blk_ext [Attn.iblk, batch, idx3 t]
theorem attn_3 (t : Fin cfg3.N) : Attn.iblk V c 3 t = V c (Proc.devRef .tc main_v10) := by
  blk_ext! [Attn.iblk, idx3 t]
theorem attn_4 (t : Fin cfg3.N) : Attn.iblk V c 4 t = V c (Proc.devRef .tc main_v11) := by
  blk_ext! [Attn.iblk, idx3 t]
theorem attn_5 (t : Fin cfg3.N) : Attn.iblk V c 5 t = V c (Proc.devRef .tc main_v12) := by
  blk_ext! [Attn.iblk, idx3 t]
theorem attn_6 (t : Fin cfg3.N) : Attn.iblk V c 6 t = V c (Proc.devRef .tc main_v13) := by
  blk_ext! [Attn.iblk, idx3 t]
theorem attn_7 (t : Fin cfg3.N) : Attn.iblk V c 7 t = V c (Proc.devRef .tc main_v14) := by
  blk_ext! [Attn.iblk, idx3 t]
theorem attn_8 (t : Fin cfg3.N) : Attn.iblk V c 8 t = V c (Proc.devRef .tc main_v15) := by
  blk_ext! [Attn.iblk, idx3 t]
theorem attn_9 (t : Fin cfg3.N) : Attn.iblk V c 9 t = V c (Proc.devRef .tc main_v16) := by
  blk_ext! [Attn.iblk, idx3 t]
theorem attn_10 (t : Fin cfg3.N) : Attn.iblk V c 10 t = V c (Proc.devRef .tc main_v17) := by
  blk_ext! [Attn.iblk, idx3 t]

/-- The mask the call reads off the counts and the chosen columns. -/
def attnMask (a : FVec Ideal S1024x1024 .f32) (cm : FVec Ideal S4x1x1024 .f32) (q : Fin 4) (n j : Fin 1024) : EReal := max (ind (0 < a (ix2 n j))) (cm (ix3 q 0 j))

/-- The attention of row `n` of batch `q`, from the weights as the call finds them. -/
def attnOut (x : FVec Ideal S4x1024x512 .f32) (a : FVec Ideal S1024x1024 .f32) (cm : FVec Ideal S4x1x1024 .f32) (wq : FVec Ideal S512x512 .f32) (bq : FVec Ideal S1x512 .f32)
    (wk : FVec Ideal S512x512 .f32) (bk : FVec Ideal S1x512 .f32) (wv : FVec Ideal S512x512 .f32) (bv : FVec Ideal S1x512 .f32) (wo : FVec Ideal S512x512 .f32) (bo : FVec Ideal S1x512 .f32)
    (q : Fin 4) (n : Fin 1024) (o : Fin 512) : EReal :=
  ∑ c : Fin 512, attend (fun c => lin (fun d => x (ix3 q n d)) (fun d o => wq (ix2 d o)) (fun o => bq (ix2 0 o)) c)
    (fun j c => lin (fun d => x (ix3 q j d)) (fun d o => wk (ix2 d o)) (fun o => bk (ix2 0 o)) c)
    (fun j c => lin (fun d => x (ix3 q j d)) (fun d o => wv (ix2 d o)) (fun o => bv (ix2 0 o)) c)
    (fun j => attnMask a cm q n j) c * wo (ix2 c o) + bo (ix2 0 o)

theorem attn_queries (t : Fin cfg3.N) (n : Fin 128) (o : Fin 512) :
    (Attn.qs (F := Ideal) (grid3.coords t) (Attn.iblk V c 0 t) (Attn.iblk V c 3 t) (Attn.iblk V c 4 t) : S128x512.Idx → EReal) (ix2 n o)
      = lin (fun d => (V c (Proc.devRef .tc main_arg0) : S4x1024x512.Idx → EReal) (ix3 (batch t) (row t n) d)) (fun d o => (V c (Proc.devRef .tc main_v10) : S512x512.Idx → EReal) (ix2 d o))
          (fun o => (V c (Proc.devRef .tc main_v11) : S1x512.Idx → EReal) (ix2 0 o)) o := by
  refine (qs_at _ _ _ _ n o).trans ?_
  have hr : (⟨128 * (grid3.coords t (1 : Fin 2)).val + n.val, by have : (grid3.coords t (1 : Fin 2)).val < 8 := (grid3.coords t (1 : Fin 2)).isLt; omega⟩ : Fin 1024) = row t n :=
    Fin.ext (congrArg (fun z => 128 * z + n.val) (idx3 t).2.2.2.2.2.2.2.2.2.2.2.2.2)
  refine congr (congr (congrArg lin (funext fun d => ?_)) (funext fun d => funext fun o => congrFun (attn_3 V c t) _)) (funext fun o => congrFun (attn_4 V c t) _) |> fun h => congrFun h o
  exact (attn_0 V c t _ d).trans (congrArg (fun r => (V c (Proc.devRef .tc main_arg0) : S4x1024x512.Idx → EReal) (ix3 (batch t) r d)) hr)

theorem attn_keys (t : Fin cfg3.N) (j : Fin 1024) (o : Fin 512) :
    (Attn.keysAt V c t : S1024x512.Idx → EReal) (ix2 j o)
      = lin (fun d => (V c (Proc.devRef .tc main_arg0) : S4x1024x512.Idx → EReal) (ix3 (batch t) j d)) (fun d o => (V c (Proc.devRef .tc main_v12) : S512x512.Idx → EReal) (ix2 d o))
          (fun o => (V c (Proc.devRef .tc main_v13) : S1x512.Idx → EReal) (ix2 0 o)) o := by
  unfold Attn.keysAt
  refine (keys_at _ _ _ j o).trans ?_
  refine congr (congr (congrArg lin (funext fun d => ?_)) (funext fun d => funext fun o => congrFun (attn_5 V c _) _)) (funext fun o => congrFun (attn_6 V c _) _) |> fun h => congrFun h o
  exact (attn_0 V c _ _ d).trans (congrArg (fun r => (V c (Proc.devRef .tc main_arg0) : S4x1024x512.Idx → EReal) (ix3 r j d)) (batch_base t))

theorem attn_vals (t : Fin cfg3.N) (j : Fin 1024) (o : Fin 512) :
    (Attn.valsAt V c t : S1024x512.Idx → EReal) (ix2 j o)
      = lin (fun d => (V c (Proc.devRef .tc main_arg0) : S4x1024x512.Idx → EReal) (ix3 (batch t) j d)) (fun d o => (V c (Proc.devRef .tc main_v14) : S512x512.Idx → EReal) (ix2 d o))
          (fun o => (V c (Proc.devRef .tc main_v15) : S1x512.Idx → EReal) (ix2 0 o)) o := by
  unfold Attn.valsAt
  refine (vals_at _ _ _ j o).trans ?_
  refine congr (congr (congrArg lin (funext fun d => ?_)) (funext fun d => funext fun o => congrFun (attn_7 V c _) _)) (funext fun o => congrFun (attn_8 V c _) _) |> fun h => congrFun h o
  exact (attn_0 V c _ _ d).trans (congrArg (fun r => (V c (Proc.devRef .tc main_arg0) : S4x1024x512.Idx → EReal) (ix3 r j d)) (batch_base t))

theorem attn_mask (t : Fin cfg3.N) (n : Fin 128) (j : Fin 1024) (x1 : FVec Ideal S128x1024 .f32) (x2 : FVec Ideal S1x1x1024 .f32) (h1 : x1 = Attn.iblk V c 1 t) (h2 : x2 = Attn.iblk V c 2 t) :
    max (ind ((0 : EReal) < x1 (ix2 n j))) (x2 (ix3 0 0 j)) = attnMask (V c (Proc.devRef .tc main_v4)) (V c (Proc.devRef .tc main_v9)) (batch t) (row t n) j := by
  subst h1 h2
  exact congrArg₂ max (congrArg (fun z : EReal => ind (0 < z)) (attn_1 V c t n j)) (attn_2 V c t j)

theorem mask_arr : ((Attn.dat V c).arrAt 12 cfg3.N : S4x8x1024x1024.Idx → EReal) = fun i => attnMask (V c (Proc.devRef .tc main_v4)) (V c (Proc.devRef .tc main_v9)) (i 0) (i 2) (i 3) := by
  refine (Attn.dat V c).arrAt_eq_of_covers 12 _ (by decide +kernel) fun t hf y => ?_
  blk_simp
  rw [Attn.after_12]
  obtain ⟨a, h, n, j, rfl⟩ : ∃ a h n j, y = ix4 a h n j := ⟨y 0, y 1, y 2, y 3, (ix4_eta y).symm⟩
  obtain rfl := Subsingleton.elim a 0
  refine (maskv_at _ _ h n j).trans ((attn_mask V c t n j _ _ rfl rfl).trans ?_)
  have e0 : ((cfg3.win 12).blk t).view.emb (ix4 0 h n j) (0 : Fin 4) = batch t := Fin.ext (by blk_simp [batch, idx3 t]; rfl)
  have e2 : ((cfg3.win 12).blk t).view.emb (ix4 0 h n j) (2 : Fin 4) = row t n := Fin.ext (by blk_simp [row, idx3 t]; exact congrArg (· + n.val) (Nat.mul_comm _ _))
  have e3 : ((cfg3.win 12).blk t).view.emb (ix4 0 h n j) (3 : Fin 4) = (j : Fin 1024) := Fin.ext (by blk_simp [idx3 t])
  exact (congr (congrArg₂ (attnMask (V c (Proc.devRef .tc main_v4)) (V c (Proc.devRef .tc main_v9))) e0 e2) e3).symm

theorem out_arr : ((Attn.dat V c).arrAt 11 cfg3.N : S4x1024x512.Idx → EReal)
    = fun i => attnOut (V c (Proc.devRef .tc main_arg0)) (V c (Proc.devRef .tc main_v4)) (V c (Proc.devRef .tc main_v9)) (V c (Proc.devRef .tc main_v10)) (V c (Proc.devRef .tc main_v11))
        (V c (Proc.devRef .tc main_v12)) (V c (Proc.devRef .tc main_v13)) (V c (Proc.devRef .tc main_v14)) (V c (Proc.devRef .tc main_v15)) (V c (Proc.devRef .tc main_v16)) (V c (Proc.devRef .tc main_v17))
        (i 0) (i 1) (i 2) := by
  refine (Attn.dat V c).arrAt_eq_of_covers 11 _ (by decide +kernel) fun t hf y => ?_
  blk_simp
  rw [Attn.after_11]
  obtain ⟨a, n, o, rfl⟩ : ∃ a n o, y = ix3 a n o := ⟨y 0, y 1, y 2, (ix3_eta y).symm⟩
  obtain rfl := Subsingleton.elim a 0
  refine (outv_at _ _ _ _ _ _ _ _ _ _ n o).trans ?_
  have e0 : ((cfg3.win 11).blk t).view.emb (ix3 0 n o) (0 : Fin 3) = batch t := Fin.ext (by blk_simp [batch, idx3 t]; rfl)
  have e1 : ((cfg3.win 11).blk t).view.emb (ix3 0 n o) (1 : Fin 3) = row t n := Fin.ext (by blk_simp [row, idx3 t]; exact congrArg (· + n.val) (Nat.mul_comm _ _))
  have e2 : ((cfg3.win 11).blk t).view.emb (ix3 0 n o) (2 : Fin 3) = (o : Fin 512) := Fin.ext (by blk_simp [idx3 t])
  refine Eq.trans ?_ (congr (congrArg₂ (attnOut (V c (Proc.devRef .tc main_arg0)) (V c (Proc.devRef .tc main_v4)) (V c (Proc.devRef .tc main_v9)) (V c (Proc.devRef .tc main_v10)) (V c (Proc.devRef .tc main_v11))
        (V c (Proc.devRef .tc main_v12)) (V c (Proc.devRef .tc main_v13)) (V c (Proc.devRef .tc main_v14)) (V c (Proc.devRef .tc main_v15)) (V c (Proc.devRef .tc main_v16)) (V c (Proc.devRef .tc main_v17))) e0 e1) e2).symm
  unfold attnOut
  refine congrArg₂ (· + ·) (Finset.sum_congr rfl fun u _ => congrArg₂ (· * ·) ?_ (congrFun (attn_9 V c t) _)) (congrFun (attn_10 V c t) _)
  refine congrFun (congr (congr (congr (congrArg attend (funext fun u => attn_queries V c t n u)) (funext fun j => funext fun u => attn_keys V c t j u)) (funext fun j => funext fun u => attn_vals V c t j u)) (funext fun j => ?_)) u
  exact (ms_at _ _ n j).trans (attn_mask V c t n j _ _ rfl rfl)

end Cert.Proof.Val
end
-- ==== Proof.EdgeCount.lean ====
/-
  The edge counts over the extended reals: the kernel's fold over the edges, and the reference's scatter-add of ones into
  zeros, are the same number at every place, the sum over the edges of one for each edge that names the place.
-/
module

public import proofs.«01_k».proof.Proof.Count
public import Idealize.ShloMosaic.Lib.IdealHost
public import Idealize.ShloMosaic.Lib.WordCmp
public import Idealize.ShloMosaic.Lib.Routing.OpsPair

@[expose] public section

noncomputable section

namespace Cert.Proof.Count

open Idealize.ShloMosaic Idealize.ShloMosaic.ValueIdx Idealize.ShloMosaic.Routing

/-- Over the extended reals the fold over the first `n` edges is the sum of one for each of them that names the place. -/
theorem upTo_ideal (rows cols : ℕ → ℕ) (r c n : ℕ) :
    upTo (F := Ideal) rows cols r c n = (∑ e ∈ Finset.range n, if rows e = r ∧ cols e = c then (1 : EReal) else 0 : EReal) := by
  induction n with
  | zero =>
    show Ideal.ofBits .f32 0x00000000#32 = _
    rw [Finset.range_zero, Finset.sum_empty]
    exact Ideal.ofBits_zero_f32
  | succ n ih =>
    rw [Finset.sum_range_succ, ← ih, upTo]
    by_cases h : rows n = r ∧ cols n = c
    · rw [if_pos h, if_pos h]
      show upTo (F := Ideal) rows cols r c n + Ideal.ofBits .f32 0x3F800000#32 = _
      rw [Ideal.ofBits_one_f32]
    · rw [if_neg h, if_neg h, add_zero]

/-- Update `k` of a scatter of `N` scalars into an `R × C` matrix, two index words each, lands at `(r, c)` exactly when
    its two words, read signed, are `r` and `c`. -/
theorem lands_pair {R C N w : ℕ} (d : ScatterDims (shape2 R C) (shape2 N 2) (shape1 N)) (hiw : d.insertedWindowDims = [0, 1])
    (hsd : d.scatterDimsToOperandDims = [0, 1]) (hivd : d.indexVectorDim = 1) (idx : IVec (shape2 N 2) w)
    (k : Fin N) (r : Fin R) (c : Fin C) :
    d.resultIdx? (ix1 k) idx = some (ix2 r c) ↔ (idx (ix2 k (0 : Fin 2))).toInt = r.val ∧ (idx (ix2 k (1 : Fin 2))).toInt = c.val := by
  have hm : ∀ q : Fin 2, q ∈ d.scatterDimsToOperandDims := fun q => by rw [hsd]; fin_cases q <;> simp
  have hwin : ∀ q : Fin 2, d.window (ix1 k) q = 0 := fun q => by
    unfold ScatterDims.window
    exact dif_neg fun h => (of_decide_eq_true (List.mem_filter.1 h).2) (by rw [hiw]; fin_cases q <;> simp)
  have hat : ∀ q : Fin 2, d.siIdx (ix1 k) ⟨d.scatterDimsToOperandDims.idxOf q, List.idxOf_lt_length_iff.2 (hm q)⟩ = ix2 k q := fun q => by
    funext b
    apply Fin.ext
    match b with
    | ⟨0, _⟩ =>
      unfold ScatterDims.siIdx
      rw [dif_neg (by rw [hivd]; exact Nat.zero_ne_one)]
      unfold ScatterDims.siCoord
      exact congrArg (fun t => ((ix1 k : (shape1 N).Idx) t).val) (Subsingleton.elim (α := Fin 1) _ 0)
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 k) idx q = (idx (ix2 k q)).toInt := fun q => by
    unfold ScatterDims.start
    rw [dif_pos (hm q), hat]
  rw [resultIdx?_ix2, hstart, hstart, hwin, hwin]
  simp

/-- A scatter-add of ones into zeros over `N` pairs of index words: at `(r, c)`, the sum of one for each pair that is
    `(r, c)`. -/
theorem scatterAdd_pair {R C N w : ℕ} (d : ScatterDims (shape2 R C) (shape2 N 2) (shape1 N)) (hiw : d.insertedWindowDims = [0, 1])
    (hsd : d.scatterDimsToOperandDims = [0, 1]) (hivd : d.indexVectorDim = 1) (x : FVec Ideal (shape2 R C) .f32) (hx : ∀ i, x i = (0 : EReal))
    (idx : IVec (shape2 N 2) w) (u : FVec Ideal (shape1 N) .f32) (hu : ∀ i, u i = (1 : EReal)) (rows cols : ℕ → ℕ)
    (hr : ∀ k : Fin N, (idx (ix2 k (0 : Fin 2))).toInt = rows k.val) (hc : ∀ k : Fin N, (idx (ix2 k (1 : Fin 2))).toInt = cols k.val)
    (r : Fin R) (c : Fin C) :
    Host.scatterAdd (F := Ideal) d x idx u (ix2 r c) = (∑ e ∈ Finset.range N, if rows e = r.val ∧ cols e = c.val then (1 : EReal) else 0 : EReal) := by
  show x (ix2 r c) + (∑ j ∈ Finset.univ.filter (fun j => d.resultIdx? j idx = some (ix2 r c)), u j : EReal) = _
  rw [hx, zero_add, Finset.sum_congr rfl (fun j _ => hu j), Finset.sum_filter, Finset.sum_range]
  refine (Fintype.sum_equiv (ι := Fin N) (κ := (shape1 N).Idx) ⟨ix1, fun j => j 0, fun _ => rfl, fun j => (eq_ix1 j).symm⟩ _ _ fun k => ?_).symm
  refine if_congr ?_ rfl rfl
  show _ ↔ d.resultIdx? (ix1 k) idx = some (ix2 r c)
  rw [lands_pair d hiw hsd hivd, hr, hc]
  norm_cast

/-- What the precondition says of one index word: at least 0 and below 1024, both read signed, so below 1024 unsigned. -/
theorem word_lt (v : BitVec 32) (h : IntOp.andi (IntOp.cmpi .sge v 0#32) (IntOp.cmpi .slt v 1024#32) = 1#1) : v.toNat < 1024 := by
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat, Nat.reducePow, Nat.reduceMod] at h
  omega

/-- The converse: a word below 1024 passes both tests. -/
theorem lt_word (v : BitVec 32) (h : v.toNat < 1024) : IntOp.andi (IntOp.cmpi .sge v 0#32) (IntOp.cmpi .slt v 1024#32) = 1#1 := by
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat, Nat.reducePow, Nat.reduceMod]
  omega

theorem toInt_small (v : BitVec 32) (h : v.toNat < 1024) : v.toInt = (v.toNat : Int) := by
  rw [BitVec.toInt_eq_toNat_cond, if_pos (by norm_num; omega)]

/-- The wrap of negative indices that jax writes before a scatter leaves an index that is not negative as it is. -/
theorem wrap_small (v : BitVec 32) (h : v.toNat < 1024) (w : BitVec 32) : Scalar.select (IntOp.cmpi .slt v 0#32) w v = v := by
  have : IntOp.cmpi .slt v 0#32 = 0#1 := by
    simp only [IntOp.cmpi]
    rw [show v.slt 0#32 = false by
      rw [BitVec.slt_eq_decide, toInt_small v h]; simp]
    rfl
  rw [this]
  rfl

end Cert.Proof.Count

end
-- ==== Proof.ValRun.lean ====
/-
  The kernel's two results in closed form, from the launch memory.
-/
module

public import proofs.«01_k».proof.Proof.ValArr
public import proofs.«01_k».proof.Proof.EdgeCount
public import proofs.«01_k».proof.Proof.KernelIdealKept
public import Idealize.ShloMosaic.Lib.Pointwise.IndexBridge

@[expose] public section

noncomputable section

namespace Cert.Proof.Val

open Cert.KernelIdeal Cert.KernelIdeal.Gen
open Idealize.ShloMosaic
open Cert.Proof.Spec Cert.Proof.OfKernelIdeal

variable (m : (ℓ : Loc nD τ sig) → Buf (Elt Ideal) ℓ) (d : Dev nD)

/-- The node one end of edge `e` is. -/
def node (E : IVec S2x16384 32) (hE : ∀ j, (E j).toNat < 1024) (q : Fin 2) (e : Fin 16384) : Fin 1024 := ⟨(E (ix2 q e)).toNat, hE _⟩

/-- What an array holds at launch. -/
abbrev at0 (r : Ref sig .tc) : Buf (τ := τ) (Elt Ideal) (d, Proc.devRef (τ := τ) .tc r) := m (d, Proc.devRef .tc r)

/-- The counts the SparseCore call leaves. -/
theorem v4_at (E : IVec S2x16384 32) (hE : ∀ j, (E j).toNat < 1024) (he : edges m d = E) (n k : Fin 1024) :
    (V5 m d (Proc.devRef .tc main_v4) : S1024x1024.Idx → EReal) (ix2 n k) = edgeCount (node E hE 0) (node E hE 1) n k := by
  have hent : ∀ (x : S16384.Idx → BitVec 32) (k : Fin 16384), entry x k.val = (x (ix1 k)).toNat := fun x k => by
    unfold entry
    rw [dif_pos k.isLt]
    exact congrArg (fun j => (x j).toNat) (funext fun a => match a with | 0 => rfl)
  have h5 : (V5 m d (Proc.devRef .tc main_v4) : S1024x1024.Idx → EReal) = counts (F := Ideal) (Rm m d) (Cm m d) := by
    unfold V5 afterCall
    exact Function.update_self _ _ _
  refine (congrFun h5 _).trans ((Count.upTo_ideal (entry (Rm m d)) (entry (Cm m d)) n.val k.val 16384).trans ?_)
  unfold edgeCount
  rw [Finset.sum_range]
  refine Finset.sum_congr rfl fun e _ => if_congr (and_congr ?_ ?_) rfl rfl
  · rw [hent, Fin.ext_iff, ix1_eq_valueIdx, Rm_eq, he, ← ix2_eq_valueIdx]; rfl
  · rw [hent, Fin.ext_iff, ix1_eq_valueIdx, Cm_eq, he, ← ix2_eq_valueIdx]; rfl

theorem v5_at (a : Fin 512) (j : Fin 256) : (V7 m d (Proc.devRef .tc main_v5) : S512x256.Idx → EReal) (ix2 a j) = (at0 m d main_arg10 : S256x512.Idx → EReal) (ix2 j a) := by
  have h : (V7 m d (Proc.devRef .tc main_v5) : S512x256.Idx → EReal) = transpose S512x256 [1, 0] (V5 m d (Proc.devRef .tc main_arg10) : S256x512.Idx → EReal) transposes_S256x512_S512x256_1_0 := by
    unfold V7 ops1
    after_results_simp
    try rfl
  rw [h, arg5 m d main_arg10 (by decide)]
  pointwise []

theorem v6_at (j : Fin 256) : (V7 m d (Proc.devRef .tc main_v6) : S1x256.Idx → EReal) (ix2 0 j) = (at0 m d main_arg11 : S256.Idx → EReal) (ix1 j) := by
  have h : (V7 m d (Proc.devRef .tc main_v6) : S1x256.Idx → EReal) = shapeCast S1x256 (V5 m d (Proc.devRef .tc main_arg11) : S256.Idx → EReal) shapeCasts_S256_S1x256 := by
    unfold V7 ops1
    after_results_simp
    try rfl
  rw [h, arg5 m d main_arg11 (by decide)]
  pointwise []

theorem v8_at (q : Fin 4) (n : Fin 1024) : (V9 m d (Proc.devRef .tc main_v8) : S4x1024x1.Idx → EReal) (ix3 q n 0) = (V9 m d (Proc.devRef .tc main_v7) : S4x1x1024.Idx → EReal) (ix3 q 0 n) := by
  have h : (V9 m d (Proc.devRef .tc main_v8) : S4x1024x1.Idx → EReal) = shapeCast S4x1024x1 (V8 m d (Proc.devRef .tc main_v7) : S4x1x1024.Idx → EReal) shapeCasts_S4x1x1024_S4x1024x1 := by
    unfold V9 ops2
    after_results_simp
    try rfl
  rw [h, keep9 m d main_v7 (by decide)]
  pointwise []

theorem v10_at (a o : Fin 512) : (V18 m d (Proc.devRef .tc main_v10) : S512x512.Idx → EReal) (ix2 a o) = (at0 m d main_arg2 : S512x512.Idx → EReal) (ix2 o a) := by
  have h : (V18 m d (Proc.devRef .tc main_v10) : S512x512.Idx → EReal) = transpose S512x512 [1, 0] (V10 m d (Proc.devRef .tc main_arg2) : S512x512.Idx → EReal) transposes_S512x512_S512x512_1_0 := by
    unfold V18 ops3
    after_results_simp
    try rfl
  rw [h, arg10 m d main_arg2 (by decide)]
  pointwise []
theorem v11_at (o : Fin 512) : (V18 m d (Proc.devRef .tc main_v11) : S1x512.Idx → EReal) (ix2 0 o) = (at0 m d main_arg3 : S512.Idx → EReal) (ix1 o) := by
  have h : (V18 m d (Proc.devRef .tc main_v11) : S1x512.Idx → EReal) = shapeCast S1x512 (V10 m d (Proc.devRef .tc main_arg3) : S512.Idx → EReal) shapeCasts_S512_S1x512 := by
    unfold V18 ops3
    after_results_simp
    try rfl
  rw [h, arg10 m d main_arg3 (by decide)]
  pointwise []
theorem v12_at (a o : Fin 512) : (V18 m d (Proc.devRef .tc main_v12) : S512x512.Idx → EReal) (ix2 a o) = (at0 m d main_arg4 : S512x512.Idx → EReal) (ix2 o a) := by
  have h : (V18 m d (Proc.devRef .tc main_v12) : S512x512.Idx → EReal) = transpose S512x512 [1, 0] (V10 m d (Proc.devRef .tc main_arg4) : S512x512.Idx → EReal) transposes_S512x512_S512x512_1_0 := by
    unfold V18 ops3
    after_results_simp
    try rfl
  rw [h, arg10 m d main_arg4 (by decide)]
  pointwise []
theorem v13_at (o : Fin 512) : (V18 m d (Proc.devRef .tc main_v13) : S1x512.Idx → EReal) (ix2 0 o) = (at0 m d main_arg5 : S512.Idx → EReal) (ix1 o) := by
  have h : (V18 m d (Proc.devRef .tc main_v13) : S1x512.Idx → EReal) = shapeCast S1x512 (V10 m d (Proc.devRef .tc main_arg5) : S512.Idx → EReal) shapeCasts_S512_S1x512 := by
    unfold V18 ops3
    after_results_simp
    try rfl
  rw [h, arg10 m d main_arg5 (by decide)]
  pointwise []
theorem v14_at (a o : Fin 512) : (V18 m d (Proc.devRef .tc main_v14) : S512x512.Idx → EReal) (ix2 a o) = (at0 m d main_arg6 : S512x512.Idx → EReal) (ix2 o a) := by
  have h : (V18 m d (Proc.devRef .tc main_v14) : S512x512.Idx → EReal) = transpose S512x512 [1, 0] (V10 m d (Proc.devRef .tc main_arg6) : S512x512.Idx → EReal) transposes_S512x512_S512x512_1_0 := by
    unfold V18 ops3
    after_results_simp
    try rfl
  rw [h, arg10 m d main_arg6 (by decide)]
  pointwise []
theorem v15_at (o : Fin 512) : (V18 m d (Proc.devRef .tc main_v15) : S1x512.Idx → EReal) (ix2 0 o) = (at0 m d main_arg7 : S512.Idx → EReal) (ix1 o) := by
  have h : (V18 m d (Proc.devRef .tc main_v15) : S1x512.Idx → EReal) = shapeCast S1x512 (V10 m d (Proc.devRef .tc main_arg7) : S512.Idx → EReal) shapeCasts_S512_S1x512 := by
    unfold V18 ops3
    after_results_simp
    try rfl
  rw [h, arg10 m d main_arg7 (by decide)]
  pointwise []
theorem v16_at (a o : Fin 512) : (V18 m d (Proc.devRef .tc main_v16) : S512x512.Idx → EReal) (ix2 a o) = (at0 m d main_arg8 : S512x512.Idx → EReal) (ix2 o a) := by
  have h : (V18 m d (Proc.devRef .tc main_v16) : S512x512.Idx → EReal) = transpose S512x512 [1, 0] (V10 m d (Proc.devRef .tc main_arg8) : S512x512.Idx → EReal) transposes_S512x512_S512x512_1_0 := by
    unfold V18 ops3
    after_results_simp
    try rfl
  rw [h, arg10 m d main_arg8 (by decide)]
  pointwise []
theorem v17_at (o : Fin 512) : (V18 m d (Proc.devRef .tc main_v17) : S1x512.Idx → EReal) (ix2 0 o) = (at0 m d main_arg9 : S512.Idx → EReal) (ix1 o) := by
  have h : (V18 m d (Proc.devRef .tc main_v17) : S1x512.Idx → EReal) = shapeCast S1x512 (V10 m d (Proc.devRef .tc main_arg9) : S512.Idx → EReal) shapeCasts_S512_S1x512 := by
    unfold V18 ops3
    after_results_simp
    try rfl
  rw [h, arg10 m d main_arg9 (by decide)]
  pointwise []
section Results

variable (E : IVec S2x16384 32) (hE : ∀ j, (E j).toNat < 1024) (he : edges m d = E)

/-- The launch contents of the features of batch `q`, -/
abbrev X0 (q : Fin 4) (k : Fin 1024) (a : Fin 512) : EReal := (at0 m d main_arg0 : S4x1024x512.Idx → EReal) (ix3 q k a)
/-- of the hidden layer's weights and bias, -/
abbrev W10 (a : Fin 512) (j : Fin 256) : EReal := (at0 m d main_arg10 : S256x512.Idx → EReal) (ix2 j a)
abbrev b10 (j : Fin 256) : EReal := (at0 m d main_arg11 : S256.Idx → EReal) (ix1 j)
/-- and of the score's weights. -/
abbrev w20 (j : Fin 256) : EReal := (at0 m d main_arg12 : S1x256.Idx → EReal) (ix2 0 j)

include he in
theorem v7_at (q : Fin 4) (n : Fin 1024) :
    (V9 m d (Proc.devRef .tc main_v7) : S4x1x1024.Idx → EReal) (ix3 q 0 n) = nodeScore (node E hE 0) (node E hE 1) (X0 m d q) (W10 m d) (b10 m d) (w20 m d) n := by
  have h : (V9 m d (Proc.devRef .tc main_v7) : S4x1x1024.Idx → EReal) = (Topo.dat (V7 m) d).arrAt 5 cfg1.N :=
    (keep9 m d main_v7 (by decide)).trans (Pipeline.afterRegion_arr (Topo.dat (V7 m) d) (V7 m d) (by decide) 5)
  refine (congrFun (h.trans (topo_arr (V7 m) d)) _).trans ?_
  show score _ _ _ _ _ q n = _
  unfold score nodeScore
  refine Finset.sum_congr rfl fun j _ => ?_
  refine congrArg₂ (· * ·) (congrFun (arg7 m d main_arg12 (by decide)) _) (congrArg (max · 0) (congrArg₂ (· + ·) (Finset.sum_congr rfl fun a _ => ?_) (v6_at m d j)))
  refine congrArg₂ (· * ·) (Finset.sum_congr rfl fun k _ => ?_) (v5_at m d a j)
  exact congrArg₂ (· * ·) ((congrFun (keep7 m d main_v4 (by decide)) _).trans (v4_at m d E hE he n k)) (congrFun (arg7 m d main_arg0 (by decide)) _)

include he in
theorem v9_at (q : Fin 4) (j : Fin 1024) :
    (V18 m d (Proc.devRef .tc main_v9) : S4x1x1024.Idx → EReal) (ix3 q 0 j)
      = ind (Rank.rank (nodeScore (node E hE 0) (node E hE 1) (X0 m d q) (W10 m d) (b10 m d) (w20 m d)) j < 512) := by
  have h : (V18 m d (Proc.devRef .tc main_v9) : S4x1x1024.Idx → EReal) = (Colmask.dat (V9 m) d).arrAt 2 cfg2.N :=
    (keep18 m d main_v9 (by decide)).trans (Pipeline.afterRegion_arr (Colmask.dat (V9 m) d) (V9 m d) (by decide) 2)
  refine (congrFun (h.trans (colmask_arr (V9 m) d (v8_at m d))) _).trans ?_
  show top _ q j = _
  unfold top
  exact congrArg (fun f : Fin 1024 → EReal => ind (Rank.rank f j < 512)) (funext fun i => v7_at m d E hE he q i)

include he in
theorem attnMask_at (q : Fin 4) (n j : Fin 1024) :
    attnMask (V18 m d (Proc.devRef .tc main_v4)) (V18 m d (Proc.devRef .tc main_v9)) q n j
      = sees (node E hE 0) (node E hE 1) (X0 m d q) (W10 m d) (b10 m d) (w20 m d) n j := by
  unfold attnMask sees
  have h4 : V18 m d (Proc.devRef .tc main_v4) = V5 m d (Proc.devRef .tc main_v4) :=
    (keep18 m d main_v4 (by decide)).trans ((keep10 m d main_v4 (by decide)).trans ((keep9 m d main_v4 (by decide)).trans ((keep8 m d main_v4 (by decide)).trans (keep7 m d main_v4 (by decide)))))
  exact congrArg₂ max (congrArg (fun z : EReal => ind (0 < z)) ((congrFun h4 _).trans (v4_at m d E hE he n j))) (v9_at m d E hE he q j)

include he in
/-- The mask: who sees whom, the same for every head. -/
theorem mask_final (q : Fin 4) (h : Fin 8) (n j : Fin 1024) :
    (V19 m d (Proc.devRef .tc main_v18_1) : S4x8x1024x1024.Idx → EReal) (ix4 q h n j)
      = sees (node E hE 0) (node E hE 1) (X0 m d q) (W10 m d) (b10 m d) (w20 m d) n j := by
  have e : (V19 m d (Proc.devRef .tc main_v18_1) : S4x8x1024x1024.Idx → EReal) = (Attn.dat (V18 m) d).arrAt 12 cfg3.N :=
    Pipeline.afterRegion_arr (Attn.dat (V18 m) d) (V18 m d) (by decide) 12
  exact (congrFun (e.trans (mask_arr (V18 m) d)) _).trans (attnMask_at m d E hE he q n j)

/-- The rows of batch `q` through a weight matrix and a bias. -/
abbrev proj (w : FVec Ideal S512x512 .f32) (b : FVec Ideal S512 .f32) (q : Fin 4) (n : Fin 1024) (o : Fin 512) : EReal :=
  lin (X0 m d q n) (fun a o => w (ix2 o a)) (fun o => b (ix1 o)) o

include he in
/-- The output: what every row attends to, through the output weights. -/
theorem out_final (q : Fin 4) (n : Fin 1024) (o : Fin 512) :
    (V19 m d (Proc.devRef .tc main_v18_0) : S4x1024x512.Idx → EReal) (ix3 q n o)
      = lin (attend (proj m d (at0 m d main_arg2) (at0 m d main_arg3) q n) (proj m d (at0 m d main_arg4) (at0 m d main_arg5) q) (proj m d (at0 m d main_arg6) (at0 m d main_arg7) q)
          (sees (node E hE 0) (node E hE 1) (X0 m d q) (W10 m d) (b10 m d) (w20 m d) n))
        (fun a o => (at0 m d main_arg8 : S512x512.Idx → EReal) (ix2 o a)) (fun o => (at0 m d main_arg9 : S512.Idx → EReal) (ix1 o)) o := by
  have e : (V19 m d (Proc.devRef .tc main_v18_0) : S4x1024x512.Idx → EReal) = (Attn.dat (V18 m) d).arrAt 11 cfg3.N :=
    Pipeline.afterRegion_arr (Attn.dat (V18 m) d) (V18 m d) (by decide) 11
  refine (congrFun (e.trans (out_arr (V18 m) d)) _).trans ?_
  show attnOut _ _ _ _ _ _ _ _ _ _ _ q n o = _
  unfold attnOut
  have hx : ∀ n : Fin 1024, (fun a : Fin 512 => (V18 m d (Proc.devRef .tc main_arg0) : S4x1024x512.Idx → EReal) (ix3 q n a)) = X0 m d q n := fun n =>
    funext fun a => congrFun (arg18 m d main_arg0 (by decide)) _
  refine congrArg₂ (· + ·) (Finset.sum_congr rfl fun u _ => congrArg₂ (· * ·) ?_ (v16_at m d u o)) (v17_at m d o)
  refine congrFun (congr (congr (congr (congrArg attend (funext fun u => ?_)) (funext fun j => funext fun u => ?_)) (funext fun j => funext fun u => ?_)) (funext fun j => ?_)) u
  · exact congrFun (congr (congr (congrArg lin (hx n)) (funext fun a => funext fun o => v10_at m d a o)) (funext fun o => v11_at m d o)) u
  · exact congrFun (congr (congr (congrArg lin (hx j)) (funext fun a => funext fun o => v12_at m d a o)) (funext fun o => v13_at m d o)) u
  · exact congrFun (congr (congr (congrArg lin (hx j)) (funext fun a => funext fun o => v14_at m d a o)) (funext fun o => v15_at m d o)) u
  · exact attnMask_at m d E hE he q n j

end Results

end Cert.Proof.Val
end
-- ==== Proof.RefVal.lean ====
/-
  The reference's values, one definition for each array it goes through, and what each holds at an index.
-/
module

public import proofs.«01_k».proof.Proof.Gen.ReferenceIdeal
public import proofs.«01_k».proof.Proof.Gen.ReferenceIdeal.Run
public import proofs.«01_k».proof.Proof.Spec

@[expose] public section

set_option maxRecDepth 8192

noncomputable section

namespace Cert.Proof.Ref

open Cert.ReferenceIdeal Cert.ReferenceIdeal.Gen
open Idealize.ShloMosaic Idealize.ShloMosaic.TcCoe
open Cert.Proof.Spec

/-- The index words of one end of the edges, -/
abbrev rowWords (E : IVec S2x16384 32) : IVec S16384 32 := shapeCast _ (extractStridedSlice S1x16384 ![0, 0] E slices_S2x16384_S1x16384_0_0) shapeCasts_S1x16384_S16384
/-- and of the other. -/
abbrev colWords (E : IVec S2x16384 32) : IVec S16384 32 := shapeCast _ (extractStridedSlice S1x16384 ![1, 0] E slices_S2x16384_S1x16384_1_0) shapeCasts_S1x16384_S16384
/-- A negative word counts from the end. -/
def wrap (w : IVec S16384 32) : IVec S16384x1 32 :=
  broadcastInDim S16384x1 ![0] bcast_S16384_S16384x1_0 (select (cmpi .slt w (broadcastInDim S16384 ![] bcast_S_S16384 (constantI S_ 32 0#32))) (addi w (broadcastInDim S16384 ![] bcast_S_S16384 (constantI S_ 32 1024#32))) w)

/-- The neighbours' features, gathered along the edges and added up. -/
def aggr (X : FVec Ideal S4x1024x512 .f32) (E : IVec S2x16384 32) : FVec Ideal S4x1024x512 .f32 :=
  Host.scatterAdd scatter_S4x1024x512_S16384x1_S4x16384x512_02_1_1_1 (broadcastInDim S4x1024x512 ![1, 2] bcast_S1024x512_S4x1024x512_1_2 (broadcastInDim S1024x512 ![] bcast_S_S1024x512 (constant S_ .f32 0x00000000#32)))
    (wrap (rowWords E)) (Host.gather gather_S4x1024x512_S16384x1_S4x16384x512_02_1_n_n_1_1_41512 X (wrap (colWords E)))
/-- The hidden layer, -/
def hidden (A : FVec Ideal S4x1024x512 .f32) (W1 : FVec Ideal S256x512 .f32) (b1 : FVec Ideal S256 .f32) : FVec Ideal S4x1024x256 .f32 :=
  maximumf (addf (Host.dotGeneral dot_S4x1024x512_S512x256_S4x1024x256_2_0_01_1_n_n none A (transpose S512x256 [1, 0] W1 transposes_S256x512_S512x256_1_0)) (broadcastInDim S4x1024x256 ![0, 1, 2] bcast_S1x1x256_S4x1024x256_0_1_2 (broadcastInDim S1x1x256 ![1, 2] bcast_S1x256_S1x1x256_1_2 (broadcastInDim S1x256 ![1] bcast_S256_S1x256_1 b1)))) (broadcastInDim S4x1024x256 ![] bcast_S_S4x1024x256 (constant S_ .f32 0x00000000#32))
/-- and the scores of the columns. -/
def scores (H : FVec Ideal S4x1024x256 .f32) (W2 : FVec Ideal S1x256 .f32) (b2 : FVec Ideal S1 .f32) : FVec Ideal S4x1024 .f32 :=
  shapeCast _ (addf (Host.dotGeneral dot_S4x1024x256_S256x1_S4x1024x1_2_0_01_1_n_n none H (transpose S256x1 [1, 0] W2 transposes_S1x256_S256x1_1_0)) (broadcastInDim S4x1024x1 ![0, 1, 2] bcast_S1x1x1_S4x1024x1_0_1_2 (broadcastInDim S1x1x1 ![1, 2] bcast_S1x1_S1x1x1_1_2 (broadcastInDim S1x1 ![1] bcast_S1_S1x1_1 b2)))) shapeCasts_S4x1024x1_S4x1024
/-- The 512 columns of largest score. -/
def best (s : FVec Ideal S4x1024 .f32) : IVec S4x512 32 := (Host.topK S4x512 1 (FloatOps.cmpfTotal (F := Ideal) (φ := .f32) .gt) s sliceFits_S4x1024_S4x512).2
/-- The batch each of them belongs to, -/
def batchWords : IVec S4x512x1 32 :=
  broadcastInDim S4x512x1 ![0, 1] bcast_S4x512_S4x512x1_0_1 (broadcastInDim S4x512 ![0, 1] bcast_S4x1_S4x512_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0))))
/-- and its position, wrapped. -/
def placeWords (I : IVec S4x512 32) : IVec S4x512x1 32 :=
  broadcastInDim S4x512x1 ![0, 1] bcast_S4x512_S4x512x1_0_1 (select (cmpi .slt I (broadcastInDim S4x512 ![] bcast_S_S4x512 (constantI S_ 32 0#32))) (addi I (broadcastInDim S4x512 ![] bcast_S_S4x512 (constantI S_ 32 1024#32))) I)
/-- One at each chosen column. -/
def chosen (I : IVec S4x512 32) : FVec Ideal S4x1024 .f32 :=
  Host.scatter scatter_S4x1024_S4x512x2_S4x512_n_01_01_2 (fun _ b => b) (broadcastInDim S4x1024 ![] bcast_S_S4x1024 (constant S_ .f32 0x00000000#32))
    (concatenate S4x512x2 2 [⟨S4x512x1, batchWords⟩, ⟨S4x512x1, placeWords I⟩] concatenates_S4x512x1_S4x512x1_S4x512x2_d2) (broadcastInDim S4x512 ![] bcast_S_S4x512 (constant S_ .f32 0x3F800000#32))
/-- One at each edge. -/
def linked (E : IVec S2x16384 32) : FVec Ideal S4x1024x1024 .f32 :=
  Host.scatter scatter_S4x1024x1024_S16384x2_S4x16384_0_12_12_1 (fun _ b => b) (broadcastInDim S4x1024x1024 ![] bcast_S_S4x1024x1024 (constant S_ .f32 0x00000000#32))
    (concatenate S16384x2 1 [⟨S16384x1, wrap (rowWords E)⟩, ⟨S16384x1, wrap (colWords E)⟩] concatenates_S16384x1_S16384x1_S16384x2_d1) (broadcastInDim S4x16384 ![] bcast_S_S4x16384 (constant S_ .f32 0x3F800000#32))
/-- The mask of a batch, -/
def mask1 (C : FVec Ideal S4x1024 .f32) (L : FVec Ideal S4x1024x1024 .f32) : FVec Ideal S4x1x1024x1024 .f32 :=
  broadcastInDim S4x1x1024x1024 ![0, 2, 3] bcast_S4x1024x1024_S4x1x1024x1024_0_2_3 (maximumf L (broadcastInDim S4x1024x1024 ![0, 1, 2] bcast_S4x1x1024_S4x1024x1024_0_1_2 (broadcastInDim S4x1x1024 ![0, 2] bcast_S4x1024_S4x1x1024_0_2 C)))
/-- and the same for every head. -/
def mask (M : FVec Ideal S4x1x1024x1024 .f32) : FVec Ideal S4x8x1024x1024 .f32 :=
  broadcastInDim S4x8x1024x1024 ![0, 1, 2, 3] bcast_S4x1x1024x1024_S4x8x1024x1024_0_1_2_3 M

/-- The rows of every batch through a weight matrix and a bias. -/
def linear (X : FVec Ideal S4x1024x512 .f32) (W : FVec Ideal S512x512 .f32) (b : FVec Ideal S512 .f32) : FVec Ideal S4x1024x512 .f32 :=
  addf (Host.dotGeneral dot_S4x1024x512_S512x512_S4x1024x512_2_0_01_1_n_n none X (transpose S512x512 [1, 0] W transposes_S512x512_S512x512_1_0)) (broadcastInDim S4x1024x512 ![0, 1, 2] bcast_S1x1x512_S4x1024x512_0_1_2 (broadcastInDim S1x1x512 ![2] bcast_S512_S1x1x512_2 b))
/-- The scores of the queries against the keys, an eighth of the product, -/
def logits (Q K : FVec Ideal S4x1024x512 .f32) : FVec Ideal S4x8x1024x1024 .f32 :=
  Host.divf (Host.dotGeneral dot_S4x1024x8x64_S4x1024x8x64_S4x8x1024x1024_3_3_1_1_02_02 none (shapeCast _ Q shapeCasts_S4x1024x512_S4x1024x8x64) (shapeCast _ K shapeCasts_S4x1024x512_S4x1024x8x64)) (broadcastInDim S4x8x1024x1024 ![] bcast_S_S4x8x1024x1024 (constant S_ .f32 0x41000000#32))
/-- the largest of each row, -/
def peaks (S : FVec Ideal S4x8x1024x1024 .f32) : FVec Ideal S4x8x1024 .f32 :=
  maximumf (broadcastInDim S4x8x1024 ![] bcast_S_S4x8x1024 (constant S_ .f32 0xFF800000#32)) (Host.reduce FloatOps.maximumf S (constant S_ .f32 0xFF800000#32) reducesTo_S4x8x1024x1024_S4x8x1024_d3 h_S_)
/-- the exponentials below it, -/
def exps (S : FVec Ideal S4x8x1024x1024 .f32) (P : FVec Ideal S4x8x1024 .f32) : FVec Ideal S4x8x1024x1024 .f32 :=
  Host.exp (subf S (broadcastInDim S4x8x1024x1024 ![0, 1, 2, 3] bcast_S4x8x1024x1_S4x8x1024x1024_0_1_2_3 (broadcastInDim S4x8x1024x1 ![0, 1, 2] bcast_S4x8x1024_S4x8x1024x1_0_1_2 P)))
/-- their sums along a row, -/
def sums (T : FVec Ideal S4x8x1024x1024 .f32) : FVec Ideal S4x8x1024 .f32 :=
  Host.reduceAdd T (constant S_ .f32 0x00000000#32) reducesTo_S4x8x1024x1024_S4x8x1024_d3 h_S_
/-- the masked weights, -/
def weights (T M : FVec Ideal S4x8x1024x1024 .f32) : FVec Ideal S4x8x1024x1024 .f32 :=
  mulf (Host.divf T (broadcastInDim S4x8x1024x1024 ![0, 1, 2, 3] bcast_S4x8x1024x1_S4x8x1024x1024_0_1_2_3 (broadcastInDim S4x8x1024x1 ![0, 1, 2] bcast_S4x8x1024_S4x8x1024x1_0_1_2 (sums T)))) M
/-- the same, normalised again, -/
def renorm (W : FVec Ideal S4x8x1024x1024 .f32) : FVec Ideal S4x8x1024x1024 .f32 :=
  Host.divf W (broadcastInDim S4x8x1024x1024 ![0, 1, 2, 3] bcast_S4x8x1024x1_S4x8x1024x1024_0_1_2_3 (addf (broadcastInDim S4x8x1024x1 ![0, 1, 2] bcast_S4x8x1024_S4x8x1024x1_0_1_2 (sums W)) (broadcastInDim S4x8x1024x1 ![] bcast_S_S4x8x1024x1 (constant S_ .f32 0x322BCC77#32))))
/-- the values they weigh, the heads side by side again, -/
def mixed (V : FVec Ideal S4x1024x512 .f32) (W : FVec Ideal S4x8x1024x1024 .f32) : FVec Ideal S4x1024x512 .f32 :=
  shapeCast _ (transpose S4x1024x8x64 [0, 3, 1, 2] (Host.dotGeneral dot_S4x1024x8x64_S4x8x1024x1024_S4x8x64x1024_1_3_3_2_02_01 none (shapeCast _ V shapeCasts_S4x1024x512_S4x1024x8x64) W) transposes_S4x8x64x1024_S4x1024x8x64_0_3_1_2) shapeCasts_S4x1024x8x64_S4x1024x512

/-- The whole mask from the arguments. -/
def maskOf (X : FVec Ideal S4x1024x512 .f32) (E : IVec S2x16384 32) (W1 : FVec Ideal S256x512 .f32) (b1 : FVec Ideal S256 .f32) (W2 : FVec Ideal S1x256 .f32) (b2 : FVec Ideal S1 .f32) : FVec Ideal S4x1x1024x1024 .f32 :=
  mask1 (chosen (best (scores (hidden (aggr X E) W1 b1) W2 b2))) (linked E)
/-- The output from the projections and the mask. -/
def outOf (Q K V : FVec Ideal S4x1024x512 .f32) (M : FVec Ideal S4x8x1024x1024 .f32) (Wo : FVec Ideal S512x512 .f32) (bo : FVec Ideal S512 .f32) : FVec Ideal S4x1024x512 .f32 :=
  linear (mixed V (renorm (weights (exps (logits Q K) (peaks (logits Q K))) M))) Wo bo

theorem res_mask (m : (ℓ : Loc nD τ sig) → Buf (Elt Ideal) ℓ) (c : Dev nD) :
    Value.res_main_v105 (F := Ideal) m c = mask (maskOf (m ((c.tc : Thread nD τ).loc main_arg0)) (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13))) := rfl

theorem res_out (m : (ℓ : Loc nD τ sig) → Buf (Elt Ideal) ℓ) (c : Dev nD) :
    Value.res_main_v120 (F := Ideal) m c
      = outOf (linear (m ((c.tc : Thread nD τ).loc main_arg0)) (m ((c.tc : Thread nD τ).loc main_arg2)) (m ((c.tc : Thread nD τ).loc main_arg3)))
          (linear (m ((c.tc : Thread nD τ).loc main_arg0)) (m ((c.tc : Thread nD τ).loc main_arg4)) (m ((c.tc : Thread nD τ).loc main_arg5)))
          (linear (m ((c.tc : Thread nD τ).loc main_arg0)) (m ((c.tc : Thread nD τ).loc main_arg6)) (m ((c.tc : Thread nD τ).loc main_arg7)))
          (mask (maskOf (m ((c.tc : Thread nD τ).loc main_arg0)) (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13))))
          (m ((c.tc : Thread nD τ).loc main_arg8)) (m ((c.tc : Thread nD τ).loc main_arg9)) := rfl

end Cert.Proof.Ref
end
-- ==== Proof.RefRead.lean ====
/-
  What the arrays of the reference hold, index by index.
-/
module

public import proofs.«01_k».proof.Proof.RefVal

@[expose] public section

noncomputable section

namespace Cert.Proof.Ref

open Cert.ReferenceIdeal Cert.ReferenceIdeal.Gen
open Idealize.ShloMosaic Idealize.ShloMosaic.TcCoe
open Cert.Proof.Spec

theorem hidden_at (A : FVec Ideal S4x1024x512 .f32) (W1 : FVec Ideal S256x512 .f32) (b1 : FVec Ideal S256 .f32) (b : Fin 4) (n : Fin 1024) (j : Fin 256) :
    (hidden A W1 b1 : S4x1024x256.Idx → EReal) (ix3 b n j) = max (∑ d, A (ix3 b n d) * W1 (ix2 j d) + b1 (ix1 j)) 0 := by
  pointwise [hidden]
theorem scores_at (H : FVec Ideal S4x1024x256 .f32) (W2 : FVec Ideal S1x256 .f32) (b2 : FVec Ideal S1 .f32) (b : Fin 4) (n : Fin 1024) :
    (scores H W2 b2 : S4x1024.Idx → EReal) (ix2 b n) = ∑ j, H (ix3 b n j) * W2 (ix2 0 j) + b2 (ix1 0) := by
  pointwise [scores]
theorem mask1_at (C : FVec Ideal S4x1024 .f32) (L : FVec Ideal S4x1024x1024 .f32) (b : Fin 4) (i j : Fin 1024) :
    (mask1 C L : S4x1x1024x1024.Idx → EReal) (ix4 b 0 i j) = max (L (ix3 b i j)) (C (ix2 b j)) := by
  pointwise [mask1]
theorem mask_at (M : FVec Ideal S4x1x1024x1024 .f32) (b : Fin 4) (h : Fin 8) (i j : Fin 1024) :
    (mask M : S4x8x1024x1024.Idx → EReal) (ix4 b h i j) = M (ix4 b 0 i j) := by
  pointwise [mask]
theorem linear_at (X : FVec Ideal S4x1024x512 .f32) (W : FVec Ideal S512x512 .f32) (w : FVec Ideal S512 .f32) (b : Fin 4) (n : Fin 1024) (o : Fin 512) :
    (linear X W w : S4x1024x512.Idx → EReal) (ix3 b n o) = lin (fun d => X (ix3 b n d)) (fun d o => W (ix2 o d)) (fun o => w (ix1 o)) o := by
  pointwise [linear, lin]
theorem logits_at (Q K : FVec Ideal S4x1024x512 .f32) (b : Fin 4) (h : Fin 8) (i j : Fin 1024) :
    (logits Q K : S4x8x1024x1024.Idx → EReal) (ix4 b h i j) = Ideal.div (∑ u, Q (ix3 b i (col h u)) * K (ix3 b j (col h u))) (Ideal.ofBits .f32 0x41000000#32) := by
  pointwise [logits, col]
  simp only [Nat.mul_comm]
theorem reduces_last : S4x8x1024x1024.Reduces [3] S4x8x1024 := by decide

/-- A row of maxima: the fold of the maximum along the row. -/
theorem rowMax_at (S : FVec Ideal S4x8x1024x1024 .f32) (z : FVec Ideal S_ .f32) (b : Fin 4) (h : Fin 8) (i : Fin 1024) :
    Host.reduce (FloatOps.maximumf (F := Ideal) (φ := .f32)) S z reducesTo_S4x8x1024x1024_S4x8x1024_d3 h_S_ (ix3 b h i)
      = Finset.fold (FloatOps.maximumf (F := Ideal) (φ := .f32)) (z (Shape.Idx.first h_S_)) (fun j : Fin 1024 => S (ix4 b h i j)) Finset.univ := by
  rw [Host.reduce_eq_fold_single FloatOps.maximumf S _ _ reduces_last h_S_]
  have e : S ∘ reduces_last.lift (ix3 b h i) = fun j : Fin 1024 => S (ix4 b h i j) :=
    funext fun j => congrArg S (funext fun a => Fin.ext (match a with
      | 0 => rfl
      | 1 => rfl
      | 2 => rfl
      | 3 => rfl))
  exact congrArg (fun f : Fin 1024 → EReal => Finset.fold (FloatOps.maximumf (F := Ideal) (φ := .f32)) (z (Shape.Idx.first h_S_)) f Finset.univ) e

theorem aboveBottom_at (R : FVec Ideal S4x8x1024 .f32) (b : Fin 4) (h : Fin 8) (i : Fin 1024) :
    (maximumf (broadcastInDim S4x8x1024 ![] bcast_S_S4x8x1024 (constant (F := Ideal) S_ .f32 0xFF800000#32)) R : S4x8x1024.Idx → EReal) (ix3 b h i)
      = max bottom (R (ix3 b h i)) := by
  pointwise []

theorem peaks_at (S : FVec Ideal S4x8x1024x1024 .f32) (b : Fin 4) (h : Fin 8) (i : Fin 1024) :
    (peaks S : S4x8x1024.Idx → EReal) (ix3 b h i) = max bottom (Finset.fold max bottom (fun j => S (ix4 b h i j)) Finset.univ) :=
  (aboveBottom_at _ b h i).trans (congrArg (max bottom) (rowMax_at S _ b h i))

theorem exps_at (S : FVec Ideal S4x8x1024x1024 .f32) (P : FVec Ideal S4x8x1024 .f32) (b : Fin 4) (h : Fin 8) (i j : Fin 1024) :
    (exps S P : S4x8x1024x1024.Idx → EReal) (ix4 b h i j) = Ideal.exp (S (ix4 b h i j) - P (ix3 b h i)) := by
  pointwise [exps]
theorem sums_at (T : FVec Ideal S4x8x1024x1024 .f32) (b : Fin 4) (h : Fin 8) (i : Fin 1024) :
    (sums T : S4x8x1024.Idx → EReal) (ix3 b h i) = ∑ j, T (ix4 b h i j) := by
  pointwise [sums]
theorem weights_at (T M : FVec Ideal S4x8x1024x1024 .f32) (b : Fin 4) (h : Fin 8) (i j : Fin 1024) :
    (weights T M : S4x8x1024x1024.Idx → EReal) (ix4 b h i j) = Ideal.div (T (ix4 b h i j)) (sums T (ix3 b h i)) * M (ix4 b h i j) := by
  pointwise [weights]
theorem renorm_at (W : FVec Ideal S4x8x1024x1024 .f32) (b : Fin 4) (h : Fin 8) (i j : Fin 1024) :
    (renorm W : S4x8x1024x1024.Idx → EReal) (ix4 b h i j) = Ideal.div (W (ix4 b h i j)) (sums W (ix3 b h i) + small) := by
  pointwise [renorm]
theorem mixed_at (V : FVec Ideal S4x1024x512 .f32) (W : FVec Ideal S4x8x1024x1024 .f32) (b : Fin 4) (i : Fin 1024) (c : Fin 512) :
    (mixed V W : S4x1024x512.Idx → EReal) (ix3 b i c) = ∑ j, V (ix3 b j c) * W (ix4 b (headOf c) i j) := by
  pointwise [mixed, headOf]

end Cert.Proof.Ref
end
-- ==== Proof.RefGraph.lean ====
/-
  What the reference's gathers and scatters leave at an index, the edges' ends being node numbers.
-/
module

public import proofs.«01_k».proof.Proof.RefRead
public import proofs.«01_k».proof.Proof.EdgeCount
public import proofs.«01_k».proof.Proof.Rank
public import Idealize.ShloMosaic.Lib.Routing.OpsPair
public import Idealize.ShloMosaic.Lib.Routing.OpsSet
public import Idealize.ShloMosaic.Lib.ValueLayout
public import Idealize.ShloMosaic.Lib.Pointwise.IndexBridge

@[expose] public section

noncomputable section

namespace Cert.Proof.Ref

open Cert.ReferenceIdeal Cert.ReferenceIdeal.Gen
open Idealize.ShloMosaic Idealize.ShloMosaic.TcCoe
open Cert.Proof.Spec

/-- The node one end of edge `e` is. -/
def node (E : IVec S2x16384 32) (hE : ∀ j, (E j).toNat < 1024) (q : Fin 2) (e : Fin 16384) : Fin 1024 := ⟨(E (ix2 q e)).toNat, hE _⟩

theorem rowWords_at (E : IVec S2x16384 32) (k : Fin 16384) : rowWords E (ix1 k) = E (ix2 0 k) := by
  have e : rowWords E (ix1 k) = extractStridedSlice S1x16384 ![0, 0] E slices_S2x16384_S1x16384_0_0 (ix2 0 k) := by
    rw [ix1_eq_valueIdx, ix2_eq_valueIdx]
    exact ValueIdx.shapeCast_1a_a_apply _ shapeCasts_S1x16384_S16384 k
  rw [e]
  refine congrArg E (funext fun a => Fin.ext ?_)
  match a with
  | 0 => rfl
  | 1 => show 0 + k.val = k.val; omega

theorem colWords_at (E : IVec S2x16384 32) (k : Fin 16384) : colWords E (ix1 k) = E (ix2 1 k) := by
  have e : colWords E (ix1 k) = extractStridedSlice S1x16384 ![1, 0] E slices_S2x16384_S1x16384_1_0 (ix2 0 k) := by
    rw [ix1_eq_valueIdx, ix2_eq_valueIdx]
    exact ValueIdx.shapeCast_1a_a_apply _ shapeCasts_S1x16384_S16384 k
  rw [e]
  refine congrArg E (funext fun a => Fin.ext ?_)
  match a with
  | 0 => rfl
  | 1 => show 0 + k.val = k.val; omega

theorem wrap_at (w : IVec S16384 32) (k : Fin 16384) (h : (w (ix1 k)).toNat < 1024) : wrap w (ix2 k 0) = w (ix1 k) := by
  have e : wrap w (ix2 k 0) = Scalar.select (IntOp.cmpi .slt (w (ix1 k)) 0#32) (IntOp.addi (w (ix1 k)) 1024#32) (w (ix1 k)) := by
    pointwise [wrap]
  rw [e]
  exact Count.wrap_small _ h _

/-- Where a message lands. -/
theorem aggr_lands (idx : IVec S16384x1 32) (b b' : Fin 4) (e : Fin 16384) (d d' : Fin 512) (n : Fin 1024) :
    scatter_S4x1024x512_S16384x1_S4x16384x512_02_1_1_1.resultIdx? (ix3 b' e d') idx = some (ix3 b n d)
      ↔ b' = b ∧ (idx (ix2 e 0)).toInt = n.val ∧ d' = d := by
  have s0 : scatter_S4x1024x512_S16384x1_S4x16384x512_02_1_1_1.start (ix3 b' e d') idx (0 : Fin 3) = 0 := by
    unfold ScatterDims.start; exact dif_neg (by decide)
  have s1 : scatter_S4x1024x512_S16384x1_S4x16384x512_02_1_1_1.start (ix3 b' e d') idx (1 : Fin 3) = (idx (ix2 e 0)).toInt := by
    unfold ScatterDims.start
    rw [dif_pos (by decide)]
    refine congrArg (fun i => (idx i).toInt) (funext fun a => Fin.ext ?_)
    match a with
    | 0 => rfl
    | 1 => rfl
  have s2 : scatter_S4x1024x512_S16384x1_S4x16384x512_02_1_1_1.start (ix3 b' e d') idx (2 : Fin 3) = 0 := by
    unfold ScatterDims.start; exact dif_neg (by decide)
  have w0 : scatter_S4x1024x512_S16384x1_S4x16384x512_02_1_1_1.window (ix3 b' e d') (0 : Fin 3) = b'.val := rfl
  have w1 : scatter_S4x1024x512_S16384x1_S4x16384x512_02_1_1_1.window (ix3 b' e d') (1 : Fin 3) = 0 := rfl
  have w2 : scatter_S4x1024x512_S16384x1_S4x16384x512_02_1_1_1.window (ix3 b' e d') (2 : Fin 3) = d'.val := rfl
  rw [Routing.resultIdx?_eq_some]
  constructor
  · intro h
    have h0 := h (0 : Fin 3)
    have h1 := h (1 : Fin 3)
    have h2 := h (2 : Fin 3)
    rw [s0, w0] at h0
    rw [s1, w1] at h1
    rw [s2, w2] at h2
    refine ⟨Fin.ext ?_, ?_, Fin.ext ?_⟩
    · have : (0 : Int) + b'.val = b.val := h0
      omega
    · have : (idx (ix2 e 0)).toInt + (0 : ℕ) = n.val := h1
      omega
    · have : (0 : Int) + d'.val = d.val := h2
      omega
  · rintro ⟨rfl, h1, rfl⟩ a
    match a with
    | 0 => exact (congrArg₂ (fun (x : Int) (y : ℕ) => x + y) s0 w0).trans (zero_add _)
    | 1 => exact (congrArg₂ (fun (x : Int) (y : ℕ) => x + y) s1 w1).trans ((add_zero _).trans h1)
    | 2 => exact (congrArg₂ (fun (x : Int) (y : ℕ) => x + y) s2 w2).trans (zero_add _)

/-- The message of an edge. -/
theorem message_at (X : FVec Ideal S4x1024x512 .f32) (idx : IVec S16384x1 32) (b : Fin 4) (e : Fin 16384) (d : Fin 512) (n : Fin 1024) (h : (idx (ix2 e 0)).toInt = n.val) :
    Host.gather gather_S4x1024x512_S16384x1_S4x16384x512_02_1_n_n_1_1_41512 X idx (ix3 b e d) = X (ix3 b n d) := by
  unfold Host.gather
  have s1 : gather_S4x1024x512_S16384x1_S4x16384x512_02_1_n_n_1_1_41512.start (ix3 b e d) idx (1 : Fin 3) = n.val := by
    unfold GatherDims.start
    rw [dif_pos (by decide)]
    have e1 : gather_S4x1024x512_S16384x1_S4x16384x512_02_1_n_n_1_1_41512.siIdx (ix3 b e d) ⟨0, by decide⟩ = ix2 e 0 :=
      funext fun a => Fin.ext (match a with
        | 0 => rfl
        | 1 => rfl)
    refine (congrArg (fun i => min (idx i).toInt.toNat 1023) e1).trans ?_
    have := n.isLt
    show min (idx (ix2 e 0)).toInt.toNat 1023 = n.val
    rw [h, Int.toNat_natCast]
    omega
  have s0 : gather_S4x1024x512_S16384x1_S4x16384x512_02_1_n_n_1_1_41512.start (ix3 b e d) idx (0 : Fin 3) = 0 := by
    unfold GatherDims.start; exact dif_neg (by decide)
  have s2 : gather_S4x1024x512_S16384x1_S4x16384x512_02_1_n_n_1_1_41512.start (ix3 b e d) idx (2 : Fin 3) = 0 := by
    unfold GatherDims.start; exact dif_neg (by decide)
  refine congrArg X (funext fun a => Fin.ext ?_)
  match a with
  | 0 => exact (congrArg (fun z => z + 0 + b.val) s0).trans (Nat.zero_add _)
  | 1 => exact congrArg (fun z => z + 0 + 0) s1
  | 2 => exact (congrArg (fun z => z + 0 + d.val) s2).trans (Nat.zero_add _)

theorem row_word (E : IVec S2x16384 32) (hE : ∀ j, (E j).toNat < 1024) (e : Fin 16384) : (wrap (rowWords E) (ix2 e 0)).toInt = (node E hE 0 e).val := by
  rw [wrap_at _ e (by rw [rowWords_at]; exact hE _), rowWords_at]
  exact Count.toInt_small _ (hE _)

theorem col_word (E : IVec S2x16384 32) (hE : ∀ j, (E j).toNat < 1024) (e : Fin 16384) : (wrap (colWords E) (ix2 e 0)).toInt = (node E hE 1 e).val := by
  rw [wrap_at _ e (by rw [colWords_at]; exact hE _), colWords_at]
  exact Count.toInt_small _ (hE _)

/-- The features a node receives: those of the other end of each of its edges, added up. -/
theorem aggr_at (X : FVec Ideal S4x1024x512 .f32) (E : IVec S2x16384 32) (hE : ∀ j, (E j).toNat < 1024) (b : Fin 4) (n : Fin 1024) (d : Fin 512) :
    (aggr X E : S4x1024x512.Idx → EReal) (ix3 b n d) = ∑ e ∈ Finset.univ.filter (fun e => node E hE 0 e = n), X (ix3 b (node E hE 1 e) d) := by
  unfold aggr
  generalize hu : Host.gather gather_S4x1024x512_S16384x1_S4x16384x512_02_1_n_n_1_1_41512 X (wrap (colWords E)) = u
  have hu' : ∀ b e d, u (ix3 b e d) = X (ix3 b (node E hE 1 e) d) := fun b e d => by
    rw [← hu]; exact message_at X _ b e d _ (col_word E hE e)
  show Ideal.ofBits .f32 0x00000000#32 + (∑ j ∈ Finset.univ.filter (fun j => scatter_S4x1024x512_S16384x1_S4x16384x512_02_1_1_1.resultIdx? j (wrap (rowWords E)) = some (ix3 b n d)), u j : EReal) = _
  rw [Ideal.ofBits_zero_f32, zero_add]
  have hl : ∀ j : S4x16384x512.Idx, scatter_S4x1024x512_S16384x1_S4x16384x512_02_1_1_1.resultIdx? j (wrap (rowWords E)) = some (ix3 b n d)
      ↔ j = ix3 b (j 1) d ∧ node E hE 0 (j 1) = n := fun j => by
    obtain ⟨b', e, d', rfl⟩ : ∃ b' e d', j = ix3 b' e d' := ⟨j 0, j 1, j 2, (ix3_eta j).symm⟩
    rw [aggr_lands]
    rw [row_word E hE e]
    constructor
    · rintro ⟨rfl, h, rfl⟩
      exact ⟨rfl, Fin.ext (by exact_mod_cast h)⟩
    · rintro ⟨h, h'⟩
      refine ⟨congrFun h (0 : Fin 3), ?_, congrFun h (2 : Fin 3)⟩
      exact congrArg (fun z : Fin 1024 => (z.val : Int)) h'
  refine Finset.sum_nbij' (fun j => j 1) (fun e => ix3 b e d) (fun j hj => ?_) (fun e he => ?_) (fun j hj => ?_) (fun e he => rfl) (fun j hj => ?_)
  · exact Finset.mem_filter.2 ⟨Finset.mem_univ _, ((hl j).1 (Finset.mem_filter.1 hj).2).2⟩
  · exact Finset.mem_filter.2 ⟨Finset.mem_univ _, (hl _).2 ⟨rfl, (Finset.mem_filter.1 he).2⟩⟩
  · exact ((hl j).1 (Finset.mem_filter.1 hj).2).1.symm
  · exact (congrArg u ((hl j).1 (Finset.mem_filter.1 hj).2).1).trans (hu' _ _ _)

/-- The words of an edge side by side. -/
theorem edge_words (E : IVec S2x16384 32) (hE : ∀ j, (E j).toNat < 1024) (e : Fin 16384) (q : Fin 2) :
    (concatenate S16384x2 1 [⟨S16384x1, wrap (rowWords E)⟩, ⟨S16384x1, wrap (colWords E)⟩] concatenates_S16384x1_S16384x1_S16384x2_d1 (ix2 e q)).toInt = (node E hE q e).val := by
  match q with
  | 0 =>
    refine (congrArg BitVec.toInt (concatenate_pair_apply_left (s₁ := S16384x1) (s₂ := S16384x1) (t := S16384x2) _ _ _ _ (ix2 e (0 : Fin 2)) rfl (ix2 e (0 : Fin 1)) (fun b => match b with | 0 => rfl | 1 => rfl))).trans ?_
    exact row_word E hE e
  | 1 =>
    refine (congrArg BitVec.toInt (concatenate_pair_apply_right (s₁ := S16384x1) (s₂ := S16384x1) (t := S16384x2) _ _ _ _ (ix2 e (1 : Fin 2)) rfl rfl (ix2 e (0 : Fin 1)) (fun b => match b with | 0 => fun _ => rfl | 1 => fun h => (h rfl).elim) rfl)).trans ?_
    exact col_word E hE e

/-- Where the mark of an edge lands. -/
theorem linked_lands (idx : IVec S16384x2 32) (b b' : Fin 4) (e : Fin 16384) (i j : Fin 1024) :
    scatter_S4x1024x1024_S16384x2_S4x16384_0_12_12_1.resultIdx? (ix2 b' e) idx = some (ix3 b i j)
      ↔ b' = b ∧ (idx (ix2 e 0)).toInt = i.val ∧ (idx (ix2 e 1)).toInt = j.val := by
  have s0 : scatter_S4x1024x1024_S16384x2_S4x16384_0_12_12_1.start (ix2 b' e) idx (0 : Fin 3) = 0 := by
    unfold ScatterDims.start; exact dif_neg (by decide)
  have s1 : scatter_S4x1024x1024_S16384x2_S4x16384_0_12_12_1.start (ix2 b' e) idx (1 : Fin 3) = (idx (ix2 e 0)).toInt := by
    unfold ScatterDims.start
    rw [dif_pos (by decide)]
    refine congrArg (fun i => (idx i).toInt) (funext fun a => Fin.ext ?_)
    match a with
    | 0 => rfl
    | 1 => rfl
  have s2 : scatter_S4x1024x1024_S16384x2_S4x16384_0_12_12_1.start (ix2 b' e) idx (2 : Fin 3) = (idx (ix2 e 1)).toInt := by
    unfold ScatterDims.start
    rw [dif_pos (by decide)]
    refine congrArg (fun i => (idx i).toInt) (funext fun a => Fin.ext ?_)
    match a with
    | 0 => rfl
    | 1 => rfl
  have w0 : scatter_S4x1024x1024_S16384x2_S4x16384_0_12_12_1.window (ix2 b' e) (0 : Fin 3) = b'.val := rfl
  have w1 : scatter_S4x1024x1024_S16384x2_S4x16384_0_12_12_1.window (ix2 b' e) (1 : Fin 3) = 0 := rfl
  have w2 : scatter_S4x1024x1024_S16384x2_S4x16384_0_12_12_1.window (ix2 b' e) (2 : Fin 3) = 0 := rfl
  rw [Routing.resultIdx?_eq_some]
  constructor
  · intro h
    have h0 := h (0 : Fin 3)
    have h1 := h (1 : Fin 3)
    have h2 := h (2 : Fin 3)
    rw [s0, w0] at h0
    rw [s1, w1] at h1
    rw [s2, w2] at h2
    refine ⟨Fin.ext ?_, ?_, ?_⟩
    · have : (0 : Int) + b'.val = b.val := h0
      omega
    · have : (idx (ix2 e 0)).toInt + (0 : ℕ) = i.val := h1
      omega
    · have : (idx (ix2 e 1)).toInt + (0 : ℕ) = j.val := h2
      omega
  · rintro ⟨rfl, h1, h2⟩ a
    match a with
    | 0 => exact (congrArg₂ (fun (x : Int) (y : ℕ) => x + y) s0 w0).trans (zero_add _)
    | 1 => exact (congrArg₂ (fun (x : Int) (y : ℕ) => x + y) s1 w1).trans ((add_zero _).trans h1)
    | 2 => exact (congrArg₂ (fun (x : Int) (y : ℕ) => x + y) s2 w2).trans ((add_zero _).trans h2)

/-- A pair of nodes is marked when some edge joins them. -/
theorem linked_at (E : IVec S2x16384 32) (hE : ∀ j, (E j).toNat < 1024) (b : Fin 4) (i j : Fin 1024) :
    (linked E : S4x1024x1024.Idx → EReal) (ix3 b i j) = ind (∃ e, node E hE 0 e = i ∧ node E hE 1 e = j) := by
  unfold linked
  by_cases h : ∃ e, node E hE 0 e = i ∧ node E hE 1 e = j
  · obtain ⟨e, h0, h1⟩ := id h
    refine (Routing.scatter_set_hit _ _ _ _ (ix3 b i j) (Ideal.ofBits .f32 0x3F800000#32) (fun k _ => rfl) (ix2 b e)
      ((linked_lands _ b b e i j).2 ⟨rfl, by rw [edge_words E hE e 0, h0], by rw [edge_words E hE e 1, h1]⟩)).trans ?_
    rw [Ideal.ofBits_one_f32]
    exact (if_pos h).symm
  · rw [Routing.scatter_set_miss]
    · refine Eq.trans ?_ (if_neg h).symm
      exact Ideal.ofBits_zero_f32
    · intro k hk
      obtain ⟨b', e, rfl⟩ : ∃ b' e, k = ix2 b' e := ⟨k 0, k 1, (ix2_eta k).symm⟩
      obtain ⟨_, h0, h1⟩ := (linked_lands _ b b' e i j).1 hk
      rw [edge_words E hE e 0] at h0
      rw [edge_words E hE e 1] at h1
      exact h ⟨e, Fin.ext (by exact_mod_cast h0), Fin.ext (by exact_mod_cast h1)⟩

/-- The `p`-th best column. -/
def order (s : FVec Ideal S4x1024 .f32) (b : Fin 4) (p : Fin 512) : Fin 1024 :=
  sortedFrom (Rank.larger fun n : Fin 1024 => (s (ix2 b n) : EReal)) (p.castLE (by norm_num))

theorem best_at (s : FVec Ideal S4x1024 .f32) (b : Fin 4) (p : Fin 512) : best s (ix2 b p) = BitVec.ofNat 32 (order s b p).val := by
  have e0 : ∀ n : Fin 1024, (ix2 b (p.castLE (by norm_num)) : S4x1024.Idx).along (1 : Fin 2) n = ix2 b n := fun n => funext fun a =>
    match a with
    | 0 => rfl
    | 1 => rfl
  have e1 : best s (ix2 b p) = (Host.sort2 S4x1024 1 (fun l r => FloatOps.cmpfTotal (F := Ideal) (φ := .f32) .gt l.1 r.1) s
      (fun i => if hd : 1 < S4x1024.rank then iotaInDim S4x1024 32 ⟨1, hd⟩ i else 0#32)).2 (ix2 b (p.castLE (by norm_num))) := by
    refine congrArg (Host.sort2 S4x1024 1 (fun l r => FloatOps.cmpfTotal (F := Ideal) (φ := .f32) .gt l.1 r.1) s
      (fun i => if hd : 1 < S4x1024.rank then iotaInDim S4x1024 32 ⟨1, hd⟩ i else 0#32)).2 (funext fun a => Fin.ext ?_)
    match a with
    | 0 => exact Nat.zero_add _
    | 1 => exact Nat.zero_add _
  rw [e1]
  unfold Host.sort2
  rw [dif_pos (by decide)]
  refine (congrArg (iotaInDim S4x1024 32 (1 : Fin 2)) (e0 _)).trans ?_
  refine congrArg (fun f => BitVec.ofNat 32 (sortedFrom (n := 1024) f (p.castLE (by norm_num))).val) (funext fun k => funext fun k' => ?_)
  show (BitVec.ofBool (decide (s ((ix2 b (p.castLE (by norm_num)) : S4x1024.Idx).along (1 : Fin 2) k') < s ((ix2 b (p.castLE (by norm_num)) : S4x1024.Idx).along (1 : Fin 2) k) : Prop)) == 1#1)
    = decide ((s (ix2 b k') : EReal) < s (ix2 b k))
  refine (congrArg₂ (fun x y : EReal => (BitVec.ofBool (decide (x < y)) == 1#1)) (congrArg s (e0 k')) (congrArg s (e0 k))).trans ?_
  by_cases h : (s (ix2 b (k' : Fin 1024)) : EReal) < s (ix2 b (k : Fin 1024))
  · rw [decide_eq_true h]; rfl
  · rw [decide_eq_false h]; rfl

theorem batch_word (b : Fin 4) (p : Fin 512) : (batchWords (ix3 b p 0)).toInt = b.val := by
  have e : batchWords (ix3 b p 0) = Scalar.select (IntOp.cmpi .slt (BitVec.ofNat 32 b.val) 0#32) (IntOp.addi (BitVec.ofNat 32 b.val) 4#32) (BitVec.ofNat 32 b.val) := by
    pointwise [batchWords]
  rw [e]
  match b with
  | 0 => rfl
  | 1 => rfl
  | 2 => rfl
  | 3 => rfl

theorem place_word (I : IVec S4x512 32) (b : Fin 4) (p : Fin 512) (n : Fin 1024) (h : I (ix2 b p) = BitVec.ofNat 32 n.val) :
    (placeWords I (ix3 b p 0)).toInt = n.val := by
  have e : placeWords I (ix3 b p 0) = Scalar.select (IntOp.cmpi .slt (I (ix2 b p)) 0#32) (IntOp.addi (I (ix2 b p)) 1024#32) (I (ix2 b p)) := by
    pointwise [placeWords]
  have hn : (BitVec.ofNat 32 n.val).toNat = n.val := by
    rw [BitVec.toNat_ofNat]
    have := n.isLt
    exact Nat.mod_eq_of_lt (by omega)
  have hl : (BitVec.ofNat 32 n.val).toNat < 1024 := by rw [hn]; exact n.isLt
  rw [e, h, Count.wrap_small _ hl, Count.toInt_small _ hl, hn]

/-- A column is marked when it is one of the 512 best. -/
theorem chosen_at (s : FVec Ideal S4x1024 .f32) (b : Fin 4) (j : Fin 1024) :
    (chosen (best s) : S4x1024.Idx → EReal) (ix2 b j) = ind (Rank.rank (fun n : Fin 1024 => (s (ix2 b n) : EReal)) j < 512) := by
  have hland : ∀ (b' : Fin 4) (p : Fin 512), scatter_S4x1024_S4x512x2_S4x512_n_01_01_2.resultIdx? (ix2 b' p)
      (concatenate S4x512x2 2 [⟨S4x512x1, batchWords⟩, ⟨S4x512x1, placeWords (best s)⟩] concatenates_S4x512x1_S4x512x1_S4x512x2_d2) = some (ix2 b j)
      ↔ b' = b ∧ order s b' p = j := fun b' p => by
    have h0 : (concatenate S4x512x2 2 [⟨S4x512x1, batchWords⟩, ⟨S4x512x1, placeWords (best s)⟩] concatenates_S4x512x1_S4x512x1_S4x512x2_d2 (ix3 b' p 0)).toInt = b'.val :=
      (congrArg BitVec.toInt (concatenate_pair_apply_left (s₁ := S4x512x1) (s₂ := S4x512x1) (t := S4x512x2) _ _ _ _ (ix3 b' p (0 : Fin 2)) rfl (ix3 b' p (0 : Fin 1)) (fun b => match b with | 0 => rfl | 1 => rfl | 2 => rfl))).trans
        (batch_word b' p)
    have h1 : (concatenate S4x512x2 2 [⟨S4x512x1, batchWords⟩, ⟨S4x512x1, placeWords (best s)⟩] concatenates_S4x512x1_S4x512x1_S4x512x2_d2 (ix3 b' p 1)).toInt = (order s b' p).val :=
      (congrArg BitVec.toInt (concatenate_pair_apply_right (s₁ := S4x512x1) (s₂ := S4x512x1) (t := S4x512x2) _ _ _ _ (ix3 b' p (1 : Fin 2)) rfl rfl (ix3 b' p (0 : Fin 1)) (fun b => match b with | 0 => fun _ => rfl | 1 => fun _ => rfl | 2 => fun h => (h rfl).elim) rfl)).trans
        (place_word _ b' p _ (best_at s b' p))
    generalize concatenate S4x512x2 2 [⟨S4x512x1, batchWords⟩, ⟨S4x512x1, placeWords (best s)⟩] concatenates_S4x512x1_S4x512x1_S4x512x2_d2 = idx at h0 h1 ⊢
    rw [ix3_eq_valueIdx] at h0 h1
    rw [ix2_eq_valueIdx, ix2_eq_valueIdx]
    refine (Routing.scatter_lands2 (R := 4) (C := 1024) (A := 4) (B := 512) scatter_S4x1024_S4x512x2_S4x512_n_01_01_2 rfl rfl rfl idx b' p b j).trans ?_
    constructor
    · rintro ⟨q0, q1⟩
      exact ⟨Fin.ext (by exact_mod_cast h0.symm.trans q0), Fin.ext (by exact_mod_cast h1.symm.trans q1)⟩
    · rintro ⟨rfl, rfl⟩
      exact ⟨h0, h1⟩
  unfold chosen
  have hm := Rank.mem_first (fun n : Fin 1024 => (s (ix2 b n) : EReal)) 512 (by norm_num) j
  by_cases h : Rank.rank (fun n : Fin 1024 => (s (ix2 b n) : EReal)) j < 512
  · obtain ⟨p, hp⟩ := hm.2 h
    refine (Routing.scatter_set_hit _ _ _ _ (ix2 b j) (Ideal.ofBits .f32 0x3F800000#32) (fun k _ => rfl) (ix2 b p) ((hland b p).2 ⟨rfl, hp⟩)).trans ?_
    rw [Ideal.ofBits_one_f32]
    exact (if_pos h).symm
  · rw [Routing.scatter_set_miss]
    · refine Eq.trans ?_ (if_neg h).symm
      exact Ideal.ofBits_zero_f32
    · intro k hk
      obtain ⟨b', p, rfl⟩ : ∃ b' p, k = ix2 b' p := ⟨k 0, k 1, (ix2_eta k).symm⟩
      obtain ⟨rfl, hp⟩ := (hland b' p).1 hk
      exact h (hm.1 ⟨p, hp⟩)

end Cert.Proof.Ref
end
-- ==== Proof.RefClosed.lean ====
/-
  The reference's two results in closed form.
-/
module

public import proofs.«01_k».proof.Proof.RefGraph
public import proofs.«01_k».proof.Proof.Closed

@[expose] public section

noncomputable section

namespace Cert.Proof.Ref

open Cert.ReferenceIdeal Cert.ReferenceIdeal.Gen
open Idealize.ShloMosaic Idealize.ShloMosaic.TcCoe
open Cert.Proof.Spec

/-- The reference's scores are the node scores and a constant. -/
theorem scores_eq (X : FVec Ideal S4x1024x512 .f32) (E : IVec S2x16384 32) (hE : ∀ j, (E j).toNat < 1024) (W1 : FVec Ideal S256x512 .f32) (b1 : FVec Ideal S256 .f32) (W2 : FVec Ideal S1x256 .f32)
    (b2 : FVec Ideal S1 .f32) (q : Fin 4) (n : Fin 1024) :
    (scores (hidden (aggr X E) W1 b1) W2 b2 : S4x1024.Idx → EReal) (ix2 q n)
      = nodeScore (node E hE 0) (node E hE 1) (fun k d => X (ix3 q k d)) (fun d j => W1 (ix2 j d)) (fun j => b1 (ix1 j)) (fun j => W2 (ix2 0 j)) n + b2 (ix1 0) := by
  rw [scores_at]
  refine congrArg (· + b2 (ix1 0)) ?_
  unfold nodeScore
  refine Finset.sum_congr rfl fun j _ => ?_
  rw [hidden_at, mul_comm]
  refine congrArg (fun z : EReal => W2 (ix2 0 j) * max (z + b1 (ix1 j)) 0) (Finset.sum_congr rfl fun d _ => ?_)
  rw [aggr_at X E hE]
  exact congrArg (· * W1 (ix2 j d)) (count_sum (node E hE 0) (node E hE 1) n (fun k => X (ix3 q k d))).symm

theorem mask_eq (X : FVec Ideal S4x1024x512 .f32) (E : IVec S2x16384 32) (hE : ∀ j, (E j).toNat < 1024) (W1 : FVec Ideal S256x512 .f32) (b1 : FVec Ideal S256 .f32) (W2 : FVec Ideal S1x256 .f32)
    (b2 : FVec Ideal S1 .f32) (hb : Real' (b2 (ix1 0))) (q : Fin 4) (n j : Fin 1024) :
    (maskOf X E W1 b1 W2 b2 : S4x1x1024x1024.Idx → EReal) (ix4 q 0 n j)
      = sees (node E hE 0) (node E hE 1) (fun k d => X (ix3 q k d)) (fun d j => W1 (ix2 j d)) (fun j => b1 (ix1 j)) (fun j => W2 (ix2 0 j)) n j := by
  unfold maskOf sees
  rw [mask1_at, chosen_at, linked_at E hE]
  obtain ⟨b, hb⟩ := hb
  refine congrArg₂ max (ind_congr (edgeCount_pos _ _ n j).symm) (ind_congr ?_)
  have e : (fun n : Fin 1024 => (scores (hidden (aggr X E) W1 b1) W2 b2 (ix2 q n) : EReal))
      = fun n => nodeScore (node E hE 0) (node E hE 1) (fun k d => X (ix3 q k d)) (fun d j => W1 (ix2 j d)) (fun j => b1 (ix1 j)) (fun j => W2 (ix2 0 j)) n + (b : EReal) :=
    funext fun n => (scores_eq X E hE W1 b1 W2 b2 q n).trans (by rw [hb])
  rw [e, Rank.rank_shift]

theorem out_eq (Q K V : FVec Ideal S4x1024x512 .f32) (M : FVec Ideal S4x8x1024x1024 .f32) (Wo : FVec Ideal S512x512 .f32) (bo : FVec Ideal S512 .f32) (q : Fin 4) (n : Fin 1024) (o : Fin 512)
    (hQ : ∀ u, Real' (Q (ix3 q n u))) (hK : ∀ j u, Real' (K (ix3 q j u))) (mk : Fin 1024 → EReal) (hmk : ∀ h j, M (ix4 q h n j) = mk j) (hm : ∀ j, ∃ t : ℝ, 0 ≤ t ∧ mk j = (t : EReal)) :
    (outOf Q K V M Wo bo : S4x1024x512.Idx → EReal) (ix3 q n o)
      = lin (attend (fun u => Q (ix3 q n u)) (fun j u => K (ix3 q j u)) (fun j u => V (ix3 q j u)) mk) (fun u o => Wo (ix2 o u)) (fun o => bo (ix1 o)) o := by
  unfold outOf
  rw [linear_at]
  refine congrArg (fun f => lin f (fun u o => Wo (ix2 o u)) (fun o => bo (ix1 o)) o) (funext fun u => ?_)
  rw [mixed_at, attend_eq _ hQ hK hm]
  have hl : ∀ h j, (logits Q K : S4x8x1024x1024.Idx → EReal) (ix4 q h n j) = logit (fun u => Q (ix3 q n u)) (fun j u => K (ix3 q j u)) h j := fun h j => by
    rw [logits_at, div_eight]; rfl
  have hp : ∀ h, (peaks (logits Q K) : S4x8x1024.Idx → EReal) (ix3 q h n) = peak (fun u => Q (ix3 q n u)) (fun j u => K (ix3 q j u)) h := fun h => by
    rw [peaks_at, bottom_eq, max_eq_right bot_le]
    unfold peak
    rw [bottom_eq]
    exact congrArg (fun f => Finset.fold max (⊥ : EReal) f Finset.univ) (funext (hl h))
  have he : ∀ h j, (exps (logits Q K) (peaks (logits Q K)) : S4x8x1024x1024.Idx → EReal) (ix4 q h n j) = ex (fun u => Q (ix3 q n u)) (fun j u => K (ix3 q j u)) h j := fun h j => by
    rw [exps_at, hl, hp]; rfl
  generalize exps (logits Q K) (peaks (logits Q K)) = T at he ⊢
  have hw : ∀ h j, (weights T M : S4x8x1024x1024.Idx → EReal) (ix4 q h n j)
      = Ideal.div (ex (fun u => Q (ix3 q n u)) (fun j u => K (ix3 q j u)) h j) (∑ j, ex (fun u => Q (ix3 q n u)) (fun j u => K (ix3 q j u)) h j) * mk j := fun h j => by
    rw [weights_at, hmk, sums_at, he]
    exact congrArg (fun z => Ideal.div _ z * _) (Finset.sum_congr rfl fun j _ => he h j)
  generalize weights T M = W at hw ⊢
  refine Finset.sum_congr rfl fun j _ => congrArg (V (ix3 q j u) * ·) ?_
  rw [renorm_at, sums_at, hw]
  exact congrArg (fun z => Ideal.div _ (z + small)) (Finset.sum_congr rfl fun j _ => hw _ j)

end Cert.Proof.Ref
end
-- ==== Proof.PreRead.lean ====
/-
  What the preconditions say: the edges name nodes; and in the one for the values, the numbers the softmax and the ranking are made of are finite.
-/
module

public import proofs.«01_k».proof.Proof.Gen.Pre_edges_in_range
public import proofs.«01_k».proof.Proof.Gen.Pre_in_range
public import proofs.«01_k».proof.Proof.EdgeCount
public import proofs.«01_k».proof.Proof.Algebra
public import Idealize.ShloMosaic.Lib.ReduceAll

@[expose] public section

noncomputable section

namespace Cert.Proof.Pre

open Cert.Pre_in_range Cert.Pre_in_range.Gen
open Idealize.ShloMosaic
open Cert.Proof.Spec

theorem both {a b : BitVec 1} (h : IntOp.andi a b = 1#1) : a = 1#1 ∧ b = 1#1 := by
  revert a b; decide

section Split

variable {F : FTy → Type} [FloatOps F] (x0 : FVec F S4x1024x512 .f32) (E : IVec S2x16384 32) (x2 : FVec F S512x512 .f32) (x3 : FVec F S512 .f32) (x4 : FVec F S512x512 .f32) (x5 : FVec F S512 .f32)
  (x6 : FVec F S512x512 .f32) (x7 : FVec F S512 .f32) (x8 : FVec F S512x512 .f32) (x9 : FVec F S512 .f32) (x10 : FVec F S256x512 .f32) (x11 : FVec F S256 .f32) (x12 : FVec F S1x256 .f32) (x13 : FVec F S1 .f32)

/-- The precondition of the frames says that every edge word is below 1024, -/
theorem edges_lt (h : Cert.Pre_edges_in_range.fn (F := F) x0 E x2 x3 x4 x5 x6 x7 x8 x9 x10 x11 x12 x13 = fun _ => 1#1) (j : S2x16384.Idx) :
    (E j).toNat < 1024 :=
  Count.word_lt (E j) (congrFun h j)

/-- and nothing else. -/
theorem edges_of_parts (h : ∀ j, (E j).toNat < 1024) :
    Cert.Pre_edges_in_range.fn (F := F) x0 E x2 x3 x4 x5 x6 x7 x8 x9 x10 x11 x12 x13 = fun _ => 1#1 :=
  funext fun j => Count.lt_word (E j) (h j)

/-- A number's size is below infinity. -/
abbrev Below (x : F .f32) : Prop := FloatOps.cmpf .olt (FloatOps.hostAbsf x) (FloatOps.ofBits .f32 0x7F800000#32) = 1#1

/-- The precondition taken apart at one place. -/
theorem parts (h : fn (F := F) x0 E x2 x3 x4 x5 x6 x7 x8 x9 x10 x11 x12 x13 = fun _ => 1#1) (j : S2x16384.Idx) :
    (E j).toNat < 1024 ∧ Below (x13 (ix1 0)) ∧ (∀ i, Below (x0 i)) ∧ (∀ i, Below (x2 i)) ∧ (∀ i, Below (x3 i)) ∧ (∀ i, Below (x4 i))
      ∧ (∀ i, Below (x5 i)) := by
  dsimp only [fn, fn_part1, fn_part2] at h
  obtain ⟨hj, h5⟩ := both (congrFun h j)
  obtain ⟨hj, h4⟩ := both hj
  obtain ⟨hj, h3⟩ := both hj
  obtain ⟨hj, h2⟩ := both hj
  obtain ⟨hj, h0⟩ := both hj
  obtain ⟨hj, h13⟩ := both hj
  haveI : Subsingleton S_.Idx := ⟨fun a b => funext fun k => k.elim0⟩
  have one : ∀ i : S1.Idx, i = ix1 0 := fun i => (ix1_eta i).symm.trans (congrArg ix1 (Subsingleton.elim _ _))
  refine ⟨Count.word_lt (E j) hj, ?_, ?_, ?_, ?_, ?_, ?_⟩
  · have h13' : ∃ i : S1.Idx, Below (x13 i) := ⟨_, h13⟩
    obtain ⟨i, hi⟩ := h13'
    rw [one i] at hi
    exact hi
  · exact fun i => Host.reduce_andi_all _ _ _ _ _ h0 i
  · exact fun i => Host.reduce_andi_all _ _ _ _ _ h2 i
  · exact fun i => Host.reduce_andi_all _ _ _ _ _ h3 i
  · exact fun i => Host.reduce_andi_all _ _ _ _ _ h4 i
  · exact fun i => Host.reduce_andi_all _ _ _ _ _ h5 i

end Split

/-- A number of the extended line whose size is below infinity is a real number. -/
theorem real_of_below (x : Ideal .f32) (h : Below x) : Real' x := by
  have top : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [top] at h'
  have lt : max (x : EReal) (-(x : EReal)) < ⊤ := by
    by_contra hn
    simp [Ideal.cmp, hn] at h'
  obtain ⟨h1, h2⟩ := max_lt_iff.1 lt
  have hb : (x : EReal) ≠ ⊥ := fun e => by
    rw [e, EReal.neg_bot] at h2
    exact lt_irrefl _ h2
  exact ⟨EReal.toReal x, (EReal.coe_toReal h1.ne hb).symm⟩

end Cert.Proof.Pre
end
-- ==== Proof.lean ====
/-
  The claim: the whole kernel — the SparseCore call that counts edges and the three TensorCore calls that read the counts —
  runs on every machine state the precondition allows without fault, leaves its arguments as they were and every semaphore
  at zero, and over the extended reals leaves the same two results as the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_edges_in_range
public import proofs.«01_k».proof.Proof.Gen.Pre_in_range
public import proofs.«01_k».proof.Proof.KernelKept
public import proofs.«01_k».proof.Proof.KernelIdealKept
public import proofs.«01_k».proof.Proof.ValRun
public import proofs.«01_k».proof.Proof.RefClosed
public import proofs.«01_k».proof.Proof.PreRead
public import Idealize.ShloMosaic.Lib.Pipeline.Value

@[expose] public section

set_option maxRecDepth 8192

noncomputable section

namespace Cert.Proof

open Idealize.ShloMosaic Idealize.ShloMosaic.TcCoe Idealize.SL.Sem
open Cert.Proof.Spec

theorem frame_p : Cert.quiescent_Kernel := fun m ρ hpre =>
  (θ_run Cert.Kernel.defs _ _).mono
    (fun r h => by
      have k : ∀ c : Dev Cert.Kernel.nD, ∀ a ∈ OfKernel.args, r.2.mem (c, Proc.devRef (τ := Cert.Kernel.τ) .tc a) = m (c, Proc.devRef (τ := Cert.Kernel.τ) .tc a) :=
        fun c a ha => (h.1 c _ (OfKernel.args_uc a ha)).trans (OfKernel.arg19 m c a ha)
      exact ⟨fun c => ⟨k c _ (by decide), k c _ (by decide), k c _ (by decide), k c _ (by decide), k c _ (by decide), k c _ (by decide), k c _ (by decide), k c _ (by decide), k c _ (by decide), k c _ (by decide), k c _ (by decide), k c _ (by decide), k c _ (by decide), k c _ (by decide)⟩, h.2⟩)
    (OfKernel.run_main (F := Bits) m ρ (OfKernel.inRange m fun d j => Pre.edges_lt _ _ _ _ _ _ _ _ _ _ _ _ _ _ (hpre d) j))

/-- What the kernel leaves over the extended reals: its two results, its arguments, its semaphores at zero. -/
theorem kernel_run (m : (ℓ : Loc Cert.KernelIdeal.nD Cert.KernelIdeal.τ Cert.KernelIdeal.sig) → Buf (Elt Ideal) ℓ) (ρ : Dev Cert.KernelIdeal.nD → PrngReg)
    (hE : ∀ d j, (OfKernelIdeal.edges m d j).toNat < 1024) :
    θ_run (Cert.KernelIdeal.defs (F := Ideal)) (Cert.KernelIdeal.threads (F := Ideal)) ⟨m, fun _ => 0, ρ⟩ (fun r =>
      (∀ c : Dev Cert.KernelIdeal.nD,
        r.2.mem (c, Proc.devRef (τ := Cert.KernelIdeal.τ) .tc Cert.KernelIdeal.main_v18_0) = OfKernelIdeal.V19 m c (Proc.devRef .tc Cert.KernelIdeal.main_v18_0)
        ∧ r.2.mem (c, Proc.devRef (τ := Cert.KernelIdeal.τ) .tc Cert.KernelIdeal.main_v18_1) = OfKernelIdeal.V19 m c (Proc.devRef .tc Cert.KernelIdeal.main_v18_1)
        ∧ ∀ a ∈ OfKernelIdeal.args, r.2.mem (c, Proc.devRef (τ := Cert.KernelIdeal.τ) .tc a) = m (c, Proc.devRef (τ := Cert.KernelIdeal.τ) .tc a))
      ∧ r.2.sem = fun _ => 0) :=
  (θ_run Cert.KernelIdeal.defs _ _).mono
    (fun r h => ⟨fun c => ⟨h.1 c _ (by decide), h.1 c _ (by decide), fun a ha => (h.1 c _ (OfKernelIdeal.args_uc a ha)).trans (OfKernelIdeal.arg19 m c a ha)⟩, h.2⟩)
    (OfKernelIdeal.run_main (F := Ideal) m ρ (OfKernelIdeal.inRange m hE))

theorem frame_pi : Cert.quiescent_KernelIdeal := fun m ρ hpre =>
  (θ_run Cert.KernelIdeal.defs _ _).mono
    (fun r h => by
      have k := fun c => (h.1 c).2.2
      exact ⟨fun c => ⟨k c _ (by decide), k c _ (by decide), k c _ (by decide), k c _ (by decide), k c _ (by decide), k c _ (by decide), k c _ (by decide), k c _ (by decide), k c _ (by decide), k c _ (by decide), k c _ (by decide), k c _ (by decide), k c _ (by decide), k c _ (by decide)⟩, h.2⟩)
    (kernel_run m ρ fun d j => Pre.edges_lt _ _ _ _ _ _ _ _ _ _ _ _ _ _ (hpre d) j)

/-- The frame again where the numbers are finite as well: the same run. -/
theorem frame_pi_in_range : Cert.quiescent_KernelIdeal_pre_in_range := fun m ρ hpre =>
  frame_pi m ρ fun c => Pre.edges_of_parts _ _ _ _ _ _ _ _ _ _ _ _ _ _ fun j => (Pre.parts _ _ _ _ _ _ _ _ _ _ _ _ _ _ (hpre c) j).1

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

section Value

open Cert.ReferenceIdeal

variable (X : FVec Ideal S4x1024x512 .f32) (E : IVec S2x16384 32) (hE : ∀ j, (E j).toNat < 1024)
  (Wq : FVec Ideal S512x512 .f32) (bq : FVec Ideal S512 .f32) (Wk : FVec Ideal S512x512 .f32) (bk : FVec Ideal S512 .f32)
  (Wv : FVec Ideal S512x512 .f32) (bv : FVec Ideal S512 .f32) (Wo : FVec Ideal S512x512 .f32) (bo : FVec Ideal S512 .f32)
  (W1 : FVec Ideal S256x512 .f32) (b1 : FVec Ideal S256 .f32) (W2 : FVec Ideal S1x256 .f32) (b2 : FVec Ideal S1 .f32)

/-- Which columns node `n` of batch `q` attends to. -/
abbrev seen (q : Fin 4) (n j : Fin 1024) : EReal :=
  sees (Ref.node E hE 0) (Ref.node E hE 1) (fun k d => X (ix3 q k d)) (fun d j => W1 (ix2 j d)) (fun j => b1 (ix1 j)) (fun j => W2 (ix2 0 j)) n j

/-- The rows of batch `q` through a weight matrix and a bias. -/
abbrev projected (W : FVec Ideal S512x512 .f32) (b : FVec Ideal S512 .f32) (q : Fin 4) (n : Fin 1024) (o : Fin 512) : EReal :=
  lin (fun d => X (ix3 q n d)) (fun d o => W (ix2 o d)) (fun o => b (ix1 o)) o

theorem ref_mask (hb : Real' (b2 (ix1 0))) (q : Fin 4) (h : Fin 8) (n j : Fin 1024) :
    Ref.mask (Ref.maskOf X E W1 b1 W2 b2) (ix4 q h n j) = seen X E hE W1 b1 W2 q n j :=
  (Ref.mask_at _ q h n j).trans (Ref.mask_eq X E hE W1 b1 W2 b2 hb q n j)

theorem ref_out (hb : Real' (b2 (ix1 0))) (hX : ∀ i, Real' (X i)) (hWq : ∀ i, Real' (Wq i)) (hbq : ∀ i, Real' (bq i)) (hWk : ∀ i, Real' (Wk i))
    (hbk : ∀ i, Real' (bk i)) (q : Fin 4) (n : Fin 1024) (o : Fin 512) :
    Ref.outOf (Ref.linear X Wq bq) (Ref.linear X Wk bk) (Ref.linear X Wv bv) (Ref.mask (Ref.maskOf X E W1 b1 W2 b2)) Wo bo (ix3 q n o)
      = lin (attend (projected X Wq bq q n) (projected X Wk bk q) (projected X Wv bv q) (seen X E hE W1 b1 W2 q n))
          (fun u o => Wo (ix2 o u)) (fun o => bo (ix1 o)) o := by
  have real : ∀ (W : FVec Ideal S512x512 .f32) (b : FVec Ideal S512 .f32), (∀ i, Real' (W i)) → (∀ i, Real' (b i)) →
      ∀ (k : Fin 1024) (u : Fin 512), Real' (Ref.linear X W b (ix3 q k u)) := fun W b hW hb k u => by
    rw [Ref.linear_at]
    exact lin_real (fun d => hX _) (fun d o => hW _) (fun o => hb _) u
  refine (Ref.out_eq _ _ _ _ _ _ q n o (real Wq bq hWq hbq n) (real Wk bk hWk hbk) (seen X E hE W1 b1 W2 q n)
    (fun h j => ref_mask X E hE W1 b1 W2 b2 hb q h n j) (fun j => sees_real _ _ _ _ _ _ _ _)).trans ?_
  have e : ∀ (W : FVec Ideal S512x512 .f32) (b : FVec Ideal S512 .f32) (k : Fin 1024),
      (fun u => Ref.linear X W b (ix3 q k u)) = projected X W b q k := fun W b k => funext fun u => Ref.linear_at X W b q k u
  have e2 : ∀ (W : FVec Ideal S512x512 .f32) (b : FVec Ideal S512 .f32),
      (fun k u => Ref.linear X W b (ix3 q k u)) = projected X W b q := fun W b => funext fun k => e W b k
  rw [e Wq bq n, e2 Wk bk, e2 Wv bv]

end Value

/-- The two results of the reference are the two results of the kernel, from arguments that agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_in_range m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (Cert.ReferenceIdeal.Value.res_main_v120 (F := Ideal) m' c : Cert.ReferenceIdeal.S4x1024x512.Idx → EReal) = OfKernelIdeal.V19 m c (Proc.devRef .tc Cert.KernelIdeal.main_v18_0)
    ∧ (Cert.ReferenceIdeal.Value.res_main_v105 (F := Ideal) m' c : Cert.ReferenceIdeal.S4x8x1024x1024.Idx → EReal) = OfKernelIdeal.V19 m c (Proc.devRef .tc Cert.KernelIdeal.main_v18_1) := by
  have p := fun j => Pre.parts _ _ _ _ _ _ _ _ _ _ _ _ _ _ (hpre c) j
  have hE : ∀ j, (OfKernelIdeal.edges m c j).toNat < 1024 := fun j => (p j).1
  obtain ⟨-, b2f, xf, wqf, bqf, wkf, bkf⟩ := p (ix2 0 0)
  have hb := Pre.real_of_below _ b2f
  constructor
  · rw [Ref.res_out, h0, h1, h2, h3, h4, h5, h6, h7, h8, h9, h10, h11, h12, h13]
    funext i
    rw [← ix3_eta i]
    refine (ref_out _ (OfKernelIdeal.edges m c) hE _ _ _ _ _ _ _ _ _ _ _ _ hb (fun i => Pre.real_of_below _ (xf i)) (fun i => Pre.real_of_below _ (wqf i)) (fun i => Pre.real_of_below _ (bqf i))
      (fun i => Pre.real_of_below _ (wkf i)) (fun i => Pre.real_of_below _ (bkf i)) (i 0) (i 1) (i 2)).trans ?_
    exact (Val.out_final m c (OfKernelIdeal.edges m c) hE rfl (i 0) (i 1) (i 2)).symm
  · rw [Ref.res_mask, h0, h1, h10, h11, h12, h13]
    funext i
    rw [← ix4_eta i]
    refine (ref_mask _ (OfKernelIdeal.edges m c) hE _ _ _ _ hb (i 0) (i 1) (i 2) (i 3)).trans ?_
    exact (Val.mask_final m c (OfKernelIdeal.edges m c) hE rfl (i 0) (i 1) (i 2) (i 3)).symm

theorem algebraic : Cert.algebraic_KernelIdeal_ReferenceIdeal_pre_in_range := by
  intro m g m' g' hpre hag
  refine ⟨fun c => OfKernelIdeal.V19 m c (Proc.devRef .tc Cert.KernelIdeal.main_v18_0), fun c => OfKernelIdeal.V19 m c (Proc.devRef .tc Cert.KernelIdeal.main_v18_1), ?_, ?_⟩
  · refine (θ_run Cert.KernelIdeal.defs _ _).mono (fun r h c => ?_) (kernel_run m g fun d j => (Pre.parts _ _ _ _ _ _ _ _ _ _ _ _ _ _ (hpre d) j).1)
    obtain ⟨e0, e1, kc⟩ := h.1 c
    exact ⟨e0, e1, kc _ (by decide), kc _ (by decide), kc _ (by decide), kc _ (by decide), kc _ (by decide), kc _ (by decide), kc _ (by decide), kc _ (by decide), kc _ (by decide), kc _ (by decide), kc _ (by decide), kc _ (by decide), kc _ (by decide), kc _ (by decide)⟩
  · refine (θ_run Cert.ReferenceIdeal.defs _ _).mono (fun r h c => ?_) (Cert.ReferenceIdeal.Value.run (F := Ideal) m' g')
    obtain ⟨e0, e1, kept⟩ := h c
    obtain ⟨h0, h1, h2, h3, h4, h5, h6, h7, h8, h9, h10, h11, h12, h13⟩ := hag c
    have e := results_eq m m' hpre c h0 h1 h2 h3 h4 h5 h6 h7 h8 h9 h10 h11 h12 h13
    exact ⟨e0.trans e.1, e1.trans e.2, kept⟩

theorem claim : Cert.Claim :=
  ⟨Cert.Kernel.Gen.facts, Cert.KernelIdeal.Gen.facts, Cert.ReferenceIdeal.Gen.facts, Cert.Pre_edges_in_range.Gen.facts, Cert.Pre_in_range.Gen.facts, frame_p, frame_pi, frame_pi_in_range,
    frame_ri,
    fun m ρ _ => frame_ri m ρ trivial, trivial, algebraic⟩

end Cert.Proof

end
